-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "rope_rate" .f32 0xBE135D8E#32 (((-(Real.log 10000)) * 64⁻¹ : ℝ) : EReal)

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![8, 128, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![8, 128, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v85) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x128x512 : Shape := ⟨3, ![2, 128, 512]⟩
abbrev S512x256 : Shape := ⟨2, ![512, 256]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2x128x512 .bf16) (main_arg1 : FVec F S512x256 .bf16) (main_arg2 : FVec F S512x256 .bf16) (main_arg3 : FVec F S512x256 .bf16) (main_arg4 : FVec F S256x512 .bf16) : IVec S_ 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .bf16 := Host.absf main_arg2
  let main_cst_2 : FVec F S_ .bf16 := constant S_ .bf16 0x7F80#16
  let main_v10 : FVec F S512x256 .bf16 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  main_v13
-- ==== Pre_scores_finite_ReferenceIdeal.lean ====
abbrev S8x128x512 : Shape := ⟨3, ![8, 128, 512]⟩
abbrev S512x1024 : Shape := ⟨2, ![512, 1024]⟩
abbrev S1024x512 : Shape := ⟨2, ![1024, 512]⟩
abbrev S_ : Shape := ⟨0, ![]⟩

class Facts : Prop where
  bcast_S_S8x128x512 : S_.BroadcastsInDim S8x128x512 (![] : Fin 0 → Fin S8x128x512.rank)
  reducesTo_S8x128x512_S_d0_1_2 : S8x128x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S8x128x512 .bf16) (main_arg1 : FVec F S512x1024 .bf16) (main_arg2 : FVec F S512x1024 .bf16) (main_arg3 : FVec F S512x1024 .bf16) (main_arg4 : FVec F S1024x512 .bf16) : IVec S_ 1 :=
  let main_v0 : FVec F S8x128x512 .bf16 := Host.absf main_arg0
  let main_cst : FVec F S_ .bf16 := constant S_ .bf16 0x7F80#16
  let main_v1 : FVec F S8x128x512 .bf16 := broadcastInDim S8x128x512 ![] bcast_S_S8x128x512 main_cst
  let main_v2 : IVec S8x128x512 1 := cmpf .olt main_v0 main_v1
  let main_c : IVec S_ 1 := constantI S_ 1 1#1
  let main_v3 : IVec S_ 1 := (fun x v => Host.reduce IntOp.andi x v reducesTo_S8x128x512_S_d0_1_2 h_S_) main_v2 main_c
  let main_v4 : FVec F S512x1024 .bf16 := Host.absf main_arg1
  let main_cst_0 : FVec F S_ .bf16 := constant S_ .bf16 0x7F80#16
  let main_v5 : FVec F S512x1024 .bf16 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512x1024 .bf16 := Host.absf main_arg2
  let main_cst_2 : FVec F S_ .bf16 := constant S_ .bf16 0x7F80#16
  let main_v10 : FVec F S512x1024 .bf16 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S256x512 : Shape := ⟨2, ![256, 512]⟩
abbrev S1024x512 : Shape := ⟨2, ![1024, 512]⟩
abbrev S256x256 : Shape := ⟨2, ![256, 256]⟩
abbrev S3x256x512 : Shape := ⟨3, ![3, 256, 512]⟩
abbrev S3 : Shape := ⟨1, ![3]⟩
abbrev S_ : Shape := ⟨0, ![]⟩
abbrev S1 : Shape := ⟨1, ![1]⟩
abbrev S512x768 : Shape := ⟨2, ![512, 768]⟩
abbrev S256x768 : Shape := ⟨2, ![256, 768]⟩
abbrev S256x255 : Shape := ⟨2, ![256, 255]⟩
abbrev S256x1 : Shape := ⟨2, ![256, 1]⟩
abbrev S256x64 : Shape := ⟨2, ![256, 64]⟩
abbrev S256 : Shape := ⟨1, ![256]⟩
abbrev S1x256x512 : Shape := ⟨3, ![1, 256, 512]⟩

abbrev nBuf : Space → Nat
  | .hbm => 6
  | .vmem => 10
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S512x256, .bf16⟩
  | .hbm, ⟨3, _⟩ => ⟨S512x256, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S256x512, .bf16⟩
  | .local _ .vmem, ⟨5, _⟩ => ⟨S2x128x512, .f32⟩
  | .local _ .vmem, ⟨6, _⟩ => ⟨S1024x512, .bf16⟩
  | .local _ .vmem, ⟨7, _⟩ => ⟨S256x256, .bf16⟩
  | .local _ .vmem, ⟨8, _⟩ => ⟨S3x256x512, .bf16⟩
  | .local _ .vmem, ⟨9, _⟩ => ⟨S3x256x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v43 : BitVec 32 := Scalar.muli v2 c256_i32
  let v47 : Index := Scalar.indexCast v43
  let c0_30 : Index := 0#32
  ![v47.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v43 : BitVec 32 := Scalar.muli v2 c256_i32
  let c0_i32_42 : BitVec 32 := 0#32
  ![v43.toNat, 0]
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v51 : BitVec 32 := Scalar.addi v2 c1_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c1_i32_40 : BitVec 32 := 1#32
  let v62 : BitVec 32 := Scalar.muli v61 c1_i32_40
  let v63 : BitVec 32 := Scalar.addi c0_i32_41 v62
  v63.toNat
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_44 : BitVec 32 := 2#32
  let v70 : BitVec 32 := Scalar.addi v2 c2_i32_44
  let c4_i32_45 : BitVec 32 := 4#32
  let c0_i32_46 : BitVec 32 := 0#32
  let v71 : BitVec 1 := Scalar.cmpi .eq c4_i32_45 c0_i32_46
  let c1_i32_47 : BitVec 32 := 1#32
  let v72 : BitVec 32 := Scalar.select v71 c1_i32_47 c4_i32_45
  let v73 : BitVec 32 := Scalar.remsi v70 v72
  let c0_i32_49 : BitVec 32 := 0#32
  let v75 : BitVec 1 := Scalar.cmpi .slt v73 c0_i32_49
  let c0_i32_50 : BitVec 32 := 0#32
  let v76 : BitVec 1 := Scalar.cmpi .slt v72 c0_i32_50
  let v77 : BitVec 1 := Scalar.xori v75 v76
  let c0_i32_48 : BitVec 32 := 0#32
  let v74 : BitVec 1 := Scalar.cmpi .ne v73 c0_i32_48
  let v78 : BitVec 1 := Scalar.andi v77 v74
  let v79 : BitVec 32 := Scalar.addi v73 v72
  let v80 : BitVec 32 := Scalar.select v78 v79 v73
  let c1_i32_53 : BitVec 32 := 1#32
  let v81 : BitVec 32 := Scalar.muli v80 c1_i32_53
  let v82 : BitVec 32 := Scalar.addi c0_i32_54 v81
  v82.toNat
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_57 : BitVec 32 := 3#32
  let v89 : BitVec 32 := Scalar.addi v2 c3_i32_57
  let c4_i32_58 : BitVec 32 := 4#32
  let c0_i32_59 : BitVec 32 := 0#32
  let v90 : BitVec 1 := Scalar.cmpi .eq c4_i32_58 c0_i32_59
  let c1_i32_60 : BitVec 32 := 1#32
  let v91 : BitVec 32 := Scalar.select v90 c1_i32_60 c4_i32_58
  let v92 : BitVec 32 := Scalar.remsi v89 v91
  let c0_i32_62 : BitVec 32 := 0#32
  let v94 : BitVec 1 := Scalar.cmpi .slt v92 c0_i32_62
  let c0_i32_63 : BitVec 32 := 0#32
  let v95 : BitVec 1 := Scalar.cmpi .slt v91 c0_i32_63
  let v96 : BitVec 1 := Scalar.xori v94 v95
  let c0_i32_61 : BitVec 32 := 0#32
  let v93 : BitVec 1 := Scalar.cmpi .ne v92 c0_i32_61
  let v97 : BitVec 1 := Scalar.andi v96 v93
  let v98 : BitVec 32 := Scalar.addi v92 v91
  let v99 : BitVec 32 := Scalar.select v97 v98 v92
  let c1_i32_66 : BitVec 32 := 1#32
  let v100 : BitVec 32 := Scalar.muli v99 c1_i32_66
  let v101 : BitVec 32 := Scalar.addi c0_i32_67 v100
  v101.toNat
def k0_off3 (d0 : Dev nD) (c1_i32_143 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v358 : BitVec 32 := Scalar.subi v2 c1_i32_143
  let c4_i32_144 : BitVec 32 := 4#32
  let c0_i32_145 : BitVec 32 := 0#32
  let v359 : BitVec 1 := Scalar.cmpi .eq c4_i32_144 c0_i32_145
  let c1_i32_146 : BitVec 32 := 1#32
  let v360 : BitVec 32 := Scalar.select v359 c1_i32_146 c4_i32_144
  let v361 : BitVec 32 := Scalar.remsi v358 v360
  let c0_i32_148 : BitVec 32 := 0#32
  let v363 : BitVec 1 := Scalar.cmpi .slt v361 c0_i32_148
  let c0_i32_149 : BitVec 32 := 0#32
  let v364 : BitVec 1 := Scalar.cmpi .slt v360 c0_i32_149
  let v365 : BitVec 1 := Scalar.xori v363 v364
  let c0_i32_147 : BitVec 32 := 0#32
  let v362 : BitVec 1 := Scalar.cmpi .ne v361 c0_i32_147
  let v366 : BitVec 1 := Scalar.andi v365 v362
  let v367 : BitVec 32 := Scalar.addi v361 v360
  let v368 : BitVec 32 := Scalar.select v366 v367 v361
  let c256_i32_150 : BitVec 32 := 256#32
  let v369 : BitVec 32 := Scalar.muli v368 c256_i32_150
  let c0_i32_155 : BitVec 32 := 0#32
  ![v369.toNat, 0]
def k0_off4 (d0 : Dev nD) (c1_i32_143 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v358 : BitVec 32 := Scalar.subi v2 c1_i32_143
  let c4_i32_144 : BitVec 32 := 4#32
  let c0_i32_145 : BitVec 32 := 0#32
  let v359 : BitVec 1 := Scalar.cmpi .eq c4_i32_144 c0_i32_145
  let c1_i32_146 : BitVec 32 := 1#32
  let v360 : BitVec 32 := Scalar.select v359 c1_i32_146 c4_i32_144
  let v361 : BitVec 32 := Scalar.remsi v358 v360
  let c0_i32_148 : BitVec 32 := 0#32
  let v363 : BitVec 1 := Scalar.cmpi .slt v361 c0_i32_148
  let c0_i32_149 : BitVec 32 := 0#32
  let v364 : BitVec 1 := Scalar.cmpi .slt v360 c0_i32_149
  let v365 : BitVec 1 := Scalar.xori v363 v364
  let c0_i32_147 : BitVec 32 := 0#32
  let v362 : BitVec 1 := Scalar.cmpi .ne v361 c0_i32_147
  let v366 : BitVec 1 := Scalar.andi v365 v362
  let v367 : BitVec 32 := Scalar.addi v361 v360
  let v368 : BitVec 32 := Scalar.select v366 v367 v361
  let c256_i32_157 : BitVec 32 := 256#32
  let v376 : BitVec 32 := Scalar.muli v368 c256_i32_157
  let v377 : Index := Scalar.indexCast v376
  let c0_158 : Index := 0#32
  ![v377.toNat, 0]
def k0_dev7 (d0 : Dev nD) : Nat :=
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_143 : BitVec 32 := 1#32
  let v358 : BitVec 32 := Scalar.subi v2 c1_i32_143
  let c4_i32_144 : BitVec 32 := 4#32
  let c0_i32_145 : BitVec 32 := 0#32
  let v359 : BitVec 1 := Scalar.cmpi .eq c4_i32_144 c0_i32_145
  let c1_i32_146 : BitVec 32 := 1#32
  let v360 : BitVec 32 := Scalar.select v359 c1_i32_146 c4_i32_144
  let v361 : BitVec 32 := Scalar.remsi v358 v360
  let c0_i32_148 : BitVec 32 := 0#32
  let v363 : BitVec 1 := Scalar.cmpi .slt v361 c0_i32_148
  let c0_i32_149 : BitVec 32 := 0#32
  let v364 : BitVec 1 := Scalar.cmpi .slt v360 c0_i32_149
  let v365 : BitVec 1 := Scalar.xori v363 v364
  let c0_i32_147 : BitVec 32 := 0#32
  let v362 : BitVec 1 := Scalar.cmpi .ne v361 c0_i32_147
  let v366 : BitVec 1 := Scalar.andi v365 v362
  let v367 : BitVec 32 := Scalar.addi v361 v360
  let v368 : BitVec 32 := Scalar.select v366 v367 v361
  let c1_i32_192 : BitVec 32 := 1#32
  let v482 : BitVec 32 := Scalar.muli v368 c1_i32_192
  let v483 : BitVec 32 := Scalar.addi c0_i32_193 v482
  v483.toNat
def k0_dev8 (d0 : Dev nD) : Nat :=
  let c0_i32_248 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_198 : BitVec 32 := 2#32
  let v492 : BitVec 32 := Scalar.subi v2 c2_i32_198
  let c4_i32_199 : BitVec 32 := 4#32
  let c0_i32_200 : BitVec 32 := 0#32
  let v493 : BitVec 1 := Scalar.cmpi .eq c4_i32_199 c0_i32_200
  let c1_i32_201 : BitVec 32 := 1#32
  let v494 : BitVec 32 := Scalar.select v493 c1_i32_201 c4_i32_199
  let v495 : BitVec 32 := Scalar.remsi v492 v494
  let c0_i32_203 : BitVec 32 := 0#32
  let v497 : BitVec 1 := Scalar.cmpi .slt v495 c0_i32_203
  let c0_i32_204 : BitVec 32 := 0#32
  let v498 : BitVec 1 := Scalar.cmpi .slt v494 c0_i32_204
  let v499 : BitVec 1 := Scalar.xori v497 v498
  let c0_i32_202 : BitVec 32 := 0#32
  let v496 : BitVec 1 := Scalar.cmpi .ne v495 c0_i32_202
  let v500 : BitVec 1 := Scalar.andi v499 v496
  let v501 : BitVec 32 := Scalar.addi v495 v494
  let v502 : BitVec 32 := Scalar.select v500 v501 v495
  let c1_i32_247 : BitVec 32 := 1#32
  let v616 : BitVec 32 := Scalar.muli v502 c1_i32_247
  let v617 : BitVec 32 := Scalar.addi c0_i32_248 v616
  v617.toNat
def k0_dev9 (d0 : Dev nD) : Nat :=
  let c0_i32_304 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_253 : BitVec 32 := 3#32
  let v626 : BitVec 32 := Scalar.subi v2 c3_i32_253
  let c4_i32_254 : BitVec 32 := 4#32
  let c0_i32_255 : BitVec 32 := 0#32
  let v627 : BitVec 1 := Scalar.cmpi .eq c4_i32_254 c0_i32_255
  let c1_i32_256 : BitVec 32 := 1#32
  let v628 : BitVec 32 := Scalar.select v627 c1_i32_256 c4_i32_254
  let v629 : BitVec 32 := Scalar.remsi v626 v628
  let c0_i32_258 : BitVec 32 := 0#32
  let v631 : BitVec 1 := Scalar.cmpi .slt v629 c0_i32_258
  let c0_i32_259 : BitVec 32 := 0#32
  let v632 : BitVec 1 := Scalar.cmpi .slt v628 c0_i32_259
  let v633 : BitVec 1 := Scalar.xori v631 v632
  let c0_i32_257 : BitVec 32 := 0#32
  let v630 : BitVec 1 := Scalar.cmpi .ne v629 c0_i32_257
  let v634 : BitVec 1 := Scalar.andi v633 v630
  let v635 : BitVec 32 := Scalar.addi v629 v628
  let v636 : BitVec 32 := Scalar.select v634 v635 v629
  let c1_i32_303 : BitVec 32 := 1#32
  let v750 : BitVec 32 := Scalar.muli v636 c1_i32_303
  let v751 : BitVec 32 := Scalar.addi c0_i32_304 v750
  v751.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "rope_rate" => some (((-(Real.log 10000)) * 64⁻¹ : ℝ) : EReal)
  | _ => none
-- ==== ReferenceIdeal.lean ====
abbrev S8x128x512 : Shape := ⟨3, ![8, 128, 512]⟩
abbrev S512x1024 : Shape := ⟨2, ![512, 1024]⟩
abbrev S1024x512 : Shape := ⟨2, ![1024, 512]⟩
abbrev S32 : Shape := ⟨1, ![32]⟩
abbrev S_ : Shape := ⟨0, ![]⟩
abbrev S128 : Shape := ⟨1, ![128]⟩
abbrev S128x1 : Shape := ⟨2, ![128, 1]⟩
abbrev S1x32 : Shape := ⟨2, ![1, 32]⟩
abbrev S128x32 : Shape := ⟨2, ![128, 32]⟩
abbrev S128x32x2 : Shape := ⟨3, ![128, 32, 2]⟩
abbrev S128x64 : Shape := ⟨2, ![128, 64]⟩
abbrev S8x128x1024 : Shape := ⟨3, ![8, 128, 1024]⟩
abbrev S8x128x16x64 : Shape := ⟨4, ![8, 128, 16, 64]⟩
abbrev S8x128x16x32x2 : Shape := ⟨5, ![8, 128, 16, 32, 2]⟩
abbrev S8x128x16x32x1 : Shape := ⟨5, ![8, 128, 16, 32, 1]⟩
abbrev S8x128x16x32 : Shape := ⟨4, ![8, 128, 16, 32]⟩
abbrev S1x128x1x64 : Shape := ⟨4, ![1, 128, 1, 64]⟩
abbrev S8x16x128x128 : Shape := ⟨4, ![8, 16, 128, 128]⟩
abbrev S8x16x128 : Shape := ⟨3, ![8, 16, 128]⟩
abbrev S8x16x128x1 : Shape := ⟨4, ![8, 16, 128, 1]⟩
abbrev S8x16x64x128 : Shape := ⟨4, ![8, 16, 64, 128]⟩

abbrev nBuf : Space → Nat
  | .hbm => 99
  | .vmem => 0
  | .smem => 0
  | _ => 0

abbrev bufTy : (tb : Table) → Fin (tcTables nBuf tb) → BufTy
  | .hbm, ⟨0, _⟩ => ⟨S8x128x512, .bf16⟩
  | .hbm, ⟨1, _⟩ => ⟨S512x1024, .bf16⟩
  | .hbm, ⟨2, _⟩ => ⟨S512x1024, .bf16⟩
  | .hbm, ⟨3, _⟩ => ⟨S512x1024, .bf16⟩
  | .hbm, ⟨4, _⟩ => ⟨S1024x512, .bf16⟩
  | .hbm, ⟨5, _⟩ => ⟨S8x128x512, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x512, .f32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S128, .i32⟩
  | .hbm, ⟨28, _⟩ => ⟨S128x1, .i32⟩
  | .hbm, ⟨29, _⟩ => ⟨S1x32, .f32⟩
  | .hbm, ⟨30, _⟩ => ⟨S128x1, .f32⟩
  | .hbm, ⟨31, _⟩ => ⟨S128x32, .f32⟩
  | .hbm, ⟨32, _⟩ => ⟨S128x32, .f32⟩
  | .hbm, ⟨33, _⟩ => ⟨S128x32, .f32⟩
  | .hbm, ⟨34, _⟩ => ⟨S128x32, .f32⟩
  | .hbm, ⟨35, _⟩ => ⟨S128x32x2, .f32⟩
  | .hbm, ⟨36, _⟩ => ⟨S128x64, .f32⟩
  | .hbm, ⟨37, _⟩ => ⟨S128x32, .f32⟩
  | .hbm, ⟨38, _⟩ => ⟨S128x32x2, .f32⟩
  | .hbm, ⟨39, _⟩ => ⟨S128x64, .f32⟩
  | .hbm, ⟨40, _⟩ => ⟨S8x128x1024, .f32⟩
  | .hbm, ⟨41, _⟩ => ⟨S8x128x16x64, .f32⟩
  | .hbm, ⟨42, _⟩ => ⟨S8x128x16x32x2, .f32⟩
  | .hbm, ⟨43, _⟩ => ⟨S8x128x16x32x1, .f32⟩
  | .hbm, ⟨44, _⟩ => ⟨S8x128x16x32, .f32⟩
  | .hbm, ⟨45, _⟩ => ⟨S8x128x16x32, .f32⟩
  | .hbm, ⟨46, _⟩ => ⟨S8x128x16x32x1, .f32⟩
  | .hbm, ⟨47, _⟩ => ⟨S8x128x16x32, .f32⟩
  | .hbm, ⟨48, _⟩ => ⟨S8x128x16x32x1, .f32⟩
  | .hbm, ⟨49, _⟩ => ⟨S8x128x16x32x1, .f32⟩
  | .hbm, ⟨50, _⟩ => ⟨S8x128x16x32x2, .f32⟩
  | .hbm, ⟨51, _⟩ => ⟨S8x128x16x64, .f32⟩
  | .hbm, ⟨52, _⟩ => ⟨S1x128x1x64, .f32⟩
  | .hbm, ⟨53, _⟩ => ⟨S8x128x16x64, .f32⟩
  | .hbm, ⟨54, _⟩ => ⟨S8x128x16x64, .f32⟩
  | .hbm, ⟨55, _⟩ => ⟨S1x128x1x64, .f32⟩
  | .hbm, ⟨56, _⟩ => ⟨S8x128x16x64, .f32⟩
  | .hbm, ⟨57, _⟩ => ⟨S8x128x16x64, .f32⟩
  | .hbm, ⟨58, _⟩ => ⟨S8x128x16x64, .f32⟩
  | .hbm, ⟨59, _⟩ => ⟨S8x128x1024, .f32⟩
  | .hbm, ⟨60, _⟩ => ⟨S8x128x16x64, .f32⟩
  | .hbm, ⟨61, _⟩ => ⟨S8x128x16x32x2, .f32⟩
  | .hbm, ⟨62, _⟩ => ⟨S8x128x16x32x1, .f32⟩
  | .hbm, ⟨63, _⟩ => ⟨S8x128x16x32, .f32⟩
  | .hbm, ⟨64, _⟩ => ⟨S8x128x16x32, .f32⟩
  | .hbm, ⟨65, _⟩ => ⟨S8x128x16x32x1, .f32⟩
  | .hbm, ⟨66, _⟩ => ⟨S8x128x16x32, .f32⟩
  | .hbm, ⟨67, _⟩ => ⟨S8x128x16x32x1, .f32⟩
  | .hbm, ⟨68, _⟩ => ⟨S8x128x16x32x1, .f32⟩
  | .hbm, ⟨69, _⟩ => ⟨S8x128x16x32x2, .f32⟩
  | .hbm, ⟨70, _⟩ => ⟨S8x128x16x64, .f32⟩
  | .hbm, ⟨71, _⟩ => ⟨S1x128x1x64, .f32⟩
  | .hbm, ⟨72, _⟩ => ⟨S8x128x16x64, .f32⟩
  | .hbm, ⟨73, _⟩ => ⟨S8x128x16x64, .f32⟩
  | .hbm, ⟨74, _⟩ => ⟨S1x128x1x64, .f32⟩
  | .hbm, ⟨75, _⟩ => ⟨S8x128x16x64, .f32⟩
  | .hbm, ⟨76, _⟩ => ⟨S8x128x16x64, .f32⟩
  | .hbm, ⟨77, _⟩ => ⟨S8x128x16x64, .f32⟩
  | .hbm, ⟨78, _⟩ => ⟨S8x128x1024, .f32⟩
  | .hbm, ⟨79, _⟩ => ⟨S8x128x16x64, .f32⟩
  | .hbm, ⟨80, _⟩ => ⟨S8x16x128x128, .f32⟩
  | .hbm, ⟨81, _⟩ => ⟨S_, .f32⟩
  | .hbm, ⟨82, _⟩ => ⟨S8x16x128x128, .f32⟩
  | .hbm, ⟨83, _⟩ => ⟨S8x16x128x128, .f32⟩
  | .hbm, ⟨84, _⟩ => ⟨S_, .f32⟩
  | .hbm, ⟨85, _⟩ => ⟨S8x16x128, .f32⟩
  | .hbm, ⟨86, _⟩ => ⟨S8x16x128x1, .f32⟩
  | .hbm, ⟨87, _⟩ => ⟨S8x16x128x128, .f32⟩
  | .hbm, ⟨88, _⟩ => ⟨S8x16x128x128, .f32⟩
  | .hbm, ⟨89, _⟩ => ⟨S8x16x128x128, .f32⟩
  | .hbm, ⟨90, _⟩ => ⟨S_, .f32⟩
  | .hbm, ⟨91, _⟩ => ⟨S8x16x128, .f32⟩
  | .hbm, ⟨92, _⟩ => ⟨S8x16x128x1, .f32⟩
  | .hbm, ⟨93, _⟩ => ⟨S8x16x128x128, .f32⟩
  | .hbm, ⟨94, _⟩ => ⟨S8x16x128x128, .f32⟩
  | .hbm, ⟨95, _⟩ => ⟨S8x16x64x128, .f32⟩
  | .hbm, ⟨96, _⟩ => ⟨S8x128x16x64, .f32⟩
  | .hbm, ⟨97, _⟩ => ⟨S8x128x1024, .f32⟩
  | .hbm, ⟨98, _⟩ => ⟨S8x128x512, .f32⟩
  | _, _ => ⟨S8x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_3 : Ref sig .tc := ⟨.hbm, 81, rfl⟩
abbrev main_v71 : Ref sig .tc := ⟨.hbm, 82, rfl⟩
abbrev main_v72 : Ref sig .tc := ⟨.hbm, 83, rfl⟩
abbrev main_cst_4 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_5 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩

abbrev nD : Nat := 1
abbrev τ : Topo := Topo.v7x

variable {F : FTy → Type} [FloatOps F]
-- ==== Proof.KernelIdeal.Values.lean ====
/- What one device computes from one block of 256 rows: the rotated queries and keys, the attention of
   one head, the four heads laid side by side. The kernel does this four times over, once for each
   device's rows, with its own four heads' weights. -/
module

public import proofs.«01_k».proof.Proof.Gen.KernelIdeal
public import proofs.«01_k».proof.Proof.Gen.KernelIdeal.Skeleton

@[expose] public section

noncomputable section

namespace Cert.KernelIdeal.Work

open Cert.KernelIdeal Cert.KernelIdeal.Gen
open Idealize.ShloMosaic Idealize.SL.Sem

variable {F : FTy → Type} [FloatOps F] [Named F]

/-- The column each lane is in. -/
def lane : IVec S256x256 32 := iota .tc S256x256 32 [1] iota_S256x256_d1_w32
/-- The rotation's angle: the row's position in its sequence times the column pair's rate. -/
def angle : FVec F S256x256 .f32 := k0_pay6 lane (k0_pay5 (F := F)) 64#32 (Scalar.cmpi .eq 64#32 0#32)
def cosT : FVec F S256x256 .f32 := cos angle
def sinT : FVec F S256x256 .f32 := sin angle
/-- Whether a column is even. -/
def evenT : IVec S256x256 1 := k0_pay9 lane
/-- One where row and column lie in the same sequence of 128, zero elsewhere. -/
def sameSeq : FVec F S256x256 .f32 := k0_pay11 k0_pay10 lane 128#32

/-- The columns moved one to the left, the first one last. -/
def shiftL (t : FVec F S256x256 .f32) : FVec F S256x256 .f32 :=
  concatenate S256x256 1
    [⟨S256x255, extractStridedSlice S256x255 ![0, 1] t slices_S256x256_o0_1_S256x255⟩,
     ⟨S256x1, extractStridedSlice S256x1 ![0, 0] t slices_S256x256_o0_0_S256x1⟩] concatenates_S256x255_S256x1_S256x256_d1
/-- The columns moved one to the right, the last one first. -/
def shiftR (t : FVec F S256x256 .f32) : FVec F S256x256 .f32 :=
  concatenate S256x256 1
    [⟨S256x1, extractStridedSlice S256x1 ![0, 255] t slices_S256x256_o0_255_S256x1⟩,
     ⟨S256x255, extractStridedSlice S256x255 ![0, 0] t slices_S256x256_o0_0_S256x255⟩] concatenates_S256x1_S256x255_S256x256_d1

/-- Each pair of columns turned by its angle. -/
def rope (t : FVec F S256x256 .f32) : FVec F S256x256 .f32 :=
  addf (mulf t cosT)
    (mulf (select evenT (subf (broadcast S256x256 (Scalar.ofBits .f32 0x00000000#32)) (shiftL t)) (shiftR t)) sinT)

/-- The rows times the three weights side by side. -/
def proj (w : FVec F S512x768 .bf16) (x : FVec F S256x512 .bf16) : FVec F S256x768 .f32 :=
  matmul dot_S256x512_S512x768_S256x768_1_0_0_1_n_n none x w (constant S256x768 .f32 0x00000000#32)

def qOf (t : FVec F S256x768 .f32) : FVec F S256x256 .bf16 :=
  truncf .bf16 (mulf (rope (extractStridedSlice S256x256 ![0, 0] t slices_S256x768_o0_0_S256x256))
    (broadcast S256x256 (Scalar.ofBits .f32 0x3E000000#32))) bitsLt_bf16_f32
def kOf (t : FVec F S256x768 .f32) : FVec F S256x256 .bf16 :=
  truncf .bf16 (rope (extractStridedSlice S256x256 ![0, 256] t slices_S256x768_o0_256_S256x256)) bitsLt_bf16_f32
def vOf (t : FVec F S256x768 .f32) : FVec F S256x256 .bf16 :=
  truncf .bf16 (extractStridedSlice S256x256 ![0, 512] t slices_S256x768_o0_512_S256x256) bitsLt_bf16_f32

theorem slices_head (h : Fin 4) : S256x256.Slices ![0, 64 * h.val] S256x64 := by revert h; decide

/-- Head `h`'s 64 columns. -/
def headCols (t : FVec F S256x256 .bf16) (h : Fin 4) : FVec F S256x64 .bf16 :=
  extractStridedSlice S256x64 ![0, 64 * h.val] t (slices_head h)

/-- The masked exponentials of one head's scores. -/
def weights (q k : FVec F S256x64 .bf16) : FVec F S256x256 .f32 :=
  mulf (exp (matmul dot_S256x64_S256x64_S256x256_1_1_0_0_n_n none q k (constant S256x256 .f32 0x00000000#32))) sameSeq

/-- Weights over their row sums. -/
def normed (w : FVec F S256x256 .f32) : FVec F S256x256 .f32 :=
  divf w (broadcastTo S256x256
    (shapeCast S256x1 (multiReduction .add [1] S256 w 0x00000000#32 reduces_S256x256_S256 (.inl rfl) rfl) shapeCasts_S256_S256x1)
    broadcasts_S256x1_S256x256)

/-- One head's attention. -/
def attend (q k v : FVec F S256x64 .bf16) : FVec F S256x64 .bf16 :=
  shapeCast S256x64
    (truncf .bf16
      (matmul dot_S256x256_S256x64_S256x64_1_0_0_1_n_n none (truncf .bf16 (normed (weights q k)) bitsLt_bf16_f32) v
        (constant S256x64 .f32 0x00000000#32)) bitsLt_bf16_f32)
    shapeCasts_S256x64_S256x64

/-- Head `h` of the rows `x` under the weights `w`. -/
def head (w : FVec F S512x768 .bf16) (x : FVec F S256x512 .bf16) (h : Fin 4) : FVec F S256x64 .bf16 :=
  attend (headCols (qOf (proj w x)) h) (headCols (kOf (proj w x)) h) (headCols (vOf (proj w x)) h)

/-- The heads' columns times the output weights. -/
def projOut (wo : FVec F S256x512 .bf16) (c : FVec F S256x256 .bf16) : FVec F S256x512 .f32 :=
  matmul dot_S256x256_S256x512_S256x512_1_0_0_1_n_n none c wo (constant S256x512 .f32 0x00000000#32)

/-- A product as it is sent to the device whose rows it is of. -/
def toSend (g : FVec F S256x512 .f32) : FVec F S1x256x512 .bf16 :=
  shapeCast S1x256x512 (truncf .bf16 g bitsLt_bf16_f32) shapeCasts_S256x512_S1x256x512

/-- A product received added to the ones before it. -/
def addRecv (a : FVec F S256x512 .f32) (b : FVec F S1x256x512 .bf16) : FVec F S256x512 .f32 :=
  addf a (extf .f32 (shapeCast S256x512 b shapeCasts_S1x256x512_S256x512) bitsLt_bf16_f32)

end Cert.KernelIdeal.Work

end
-- ==== Proof.KernelIdeal.Flow.lean ====
/- The kernel's body as a handshake, three sends of the device's own rows, four groups of rows worked off,
   three sends of the products, three products received and added, and the waits for the sends. -/
module

public import proofs.«01_k».proof.Proof.KernelIdeal.Values
public import Idealize.ShloMosaic.Lib.Tactic

@[expose] public section

noncomputable section

namespace Cert.KernelIdeal.Work

open Cert.KernelIdeal Cert.KernelIdeal.Gen
open Idealize.ShloMosaic Idealize.SL.Sem

variable {F : FTy → Type} [FloatOps F] [Named F]

/-! ## The buffers -/

abbrev xIn : Memref sig .tc .vmem S2x128x512 .bf16 := Memref.whole cc0_stg0_0
abbrev wqIn : Memref sig .tc .vmem S512x256 .bf16 := Memref.whole cc0_stg1_0
abbrev wkIn : Memref sig .tc .vmem S512x256 .bf16 := Memref.whole cc0_stg2_0
abbrev wvIn : Memref sig .tc .vmem S512x256 .bf16 := Memref.whole cc0_stg3_0
abbrev woIn : Memref sig .tc .vmem S256x512 .bf16 := Memref.whole cc0_stg4_0
abbrev outM : Memref sig .tc .vmem S2x128x512 .f32 := Memref.whole cc0_stg5_0
/-- Every device's rows. -/
abbrev rowsM : Memref sig .tc .vmem S1024x512 .bf16 := Memref.whole cc0_scratch0
/-- The heads of the group being worked off. -/
abbrev ctxM : Memref sig .tc .vmem S256x256 .bf16 := Memref.whole cc0_scratch1
/-- The products to send, the products received. -/
abbrev sendM : Memref sig .tc .vmem S3x256x512 .bf16 := Memref.whole cc0_scratch2
abbrev recvM : Memref sig .tc .vmem S3x256x512 .bf16 := Memref.whole cc0_scratch3

theorem one_of_three (i : Fin 3) : ∀ a, (![i.val] : Fin 1 → Nat) a + S1.size a ≤ S3.size a := by revert i; decide

/-- Semaphore `i` of an array of three. -/
abbrev semAt (A : DmaSems sig S3) (i : Fin 3) : DmaSems sig S_ :=
  (A.slice (Rect.unit (s := S3) ![i.val] S1.size (one_of_three i))).squeeze S_ squeezes_S1_S_

theorem slot_inb (j : Fin 3) : ∀ a, (![j.val, 0, 0] : Fin 3 → Nat) a + S1x256x512.size a ≤ S3x256x512.size a := by revert j; decide

/-- Where product `j` lies among the three. -/
abbrev slotR (j : Fin 3) : Rect S3x256x512 := Rect.unit (s := S3x256x512) ![j.val, 0, 0] S1x256x512.size (slot_inb j)
abbrev slotOf (M : Memref sig .tc .vmem S3x256x512 .bf16) (j : Fin 3) : Memref sig .tc .vmem S256x512 .bf16 :=
  (M.slice (slotR j) (fun _ => rfl)).squeeze S256x512 squeezes_S1x256x512_S256x512

theorem slot_words (j : Fin 3) : (slotR j).WholeWords (EltTy.packing .bf16) := by revert j; decide
theorem slot_packed (j : Fin 3) : (slotR j).PackedRows (EltTy.packing .bf16) := by revert j; decide

/-- A block of 256 of the rows. -/
abbrev rowsR (o : Fin 2 → Nat) (inb : ∀ a, o a + S256x512.size a ≤ S1024x512.size a) : Rect S1024x512 :=
  Rect.unit (s := S1024x512) o S256x512.size inb
abbrev rowsAt (o : Fin 2 → Nat) (inb : ∀ a, o a + S256x512.size a ≤ S1024x512.size a) : Memref sig .tc .vmem S256x512 .bf16 :=
  rowsM.slice (rowsR o inb) (fun _ => rfl)

theorem head_inb (h : Fin 4) : ∀ a, (![0, 64 * h.val] : Fin 2 → Nat) a + S256x64.size a ≤ S256x256.size a := by revert h; decide
/-- Head `h`'s columns. -/
abbrev headR (h : Fin 4) : Rect S256x256 := Rect.unit (s := S256x256) ![0, 64 * h.val] S256x64.size (head_inb h)
theorem head_packed (h : Fin 4) : (headR h).PackedRows (EltTy.packing .bf16) := by revert h; decide

abbrev allR3 : Rect S2x128x512 := Rect.unit (s := S2x128x512) ![0, 0, 0] S2x128x512.size inb_S2x128x512_S2x128x512_0_0_0
abbrev allRw : Rect S512x256 := Rect.unit (s := S512x256) ![0, 0] S512x256.size inb_S512x256_S512x256_0_0
abbrev allRo : Rect S256x512 := Rect.unit (s := S256x512) ![0, 0] S256x512.size inb_S256x512_S256x512_0_0
abbrev allRc : Rect S256x256 := Rect.unit (s := S256x256) ![0, 0] S256x256.size inb_S256x256_S256x256_0_0

abbrev RowsInb (o : Fin 2 → Nat) : Prop := ∀ a, o a + S256x512.size a ≤ S1024x512.size a

/-! ## The steps -/

abbrev P (F : FTy → Type) (α : Type) := Prog (TpuEff nD τ sig (Elt F) Λ₀ .tc) α

abbrev barS : Sems sig S_ := SemArray.scalar (sig.barrier 0 rfl)

def signal (t : Dev nD) : P F PUnit := semSignalWord t barS.sem 1#32
def awaitAll : P F PUnit := semWaitWord barS.sem 3#32

/-- The device's own rows, put among everybody's. -/
def placeRows (o : Fin 2 → Nat) (inb : RowsInb o) (pk : (rowsR o inb).PackedRows (EltTy.packing .bf16)) : P F PUnit := do
  let x : Vec F S2x128x512 .bf16 ← Prog.lift (.load xIn allR3.toLoadRect (View.loadsAt_vmem h_S2x128x512))
  let _ : Vec F S256x512 .bf16 ← Prog.lift (.load rowsM (rowsR o inb).toLoadRect (View.loadsAt_vmem h_S256x512))
  Prog.lift (.store rowsM (rowsR o inb) (k0_pay2 x) Finset.univ
    (View.stores_vmem h_S256x512 ((Memref.isWhole_whole cc0_scratch0).storeExact_slice rfl _ pk) (fun _ => rfl)) (.inl rfl))

def sendRows (i : Fin 3) (t : Dev nD) (o : Fin 2 → Nat) (inb : RowsInb o) (ww : (rowsR o inb).WholeWords (EltTy.packing .bf16)) : P F PUnit :=
  Prog.lift (.enqueueDma (rowsAt o inb) (.remote (Dev.tc t) (rowsAt o inb) (.dma (semAt cc0_scratch4 i).sem)) (.dma (semAt cc0_scratch5 i).sem)
    ((Memref.isWhole_whole cc0_scratch0).wordExact_slice rfl _ ww) ((Memref.isWhole_whole cc0_scratch0).wordExact_slice rfl _ ww)
    ⟨⟨rfl, Or.inl rfl⟩, trivial⟩)

def awaitRows (S : DmaSems sig S3) (i : Fin 3) (o : Fin 2 → Nat) (inb : RowsInb o) (ww : (rowsR o inb).WholeWords (EltTy.packing .bf16)) : P F PUnit :=
  Prog.lift (.waitDma2 (semAt S i).sem (rowsAt o inb) (rowsAt o inb)
    ((Memref.isWhole_whole cc0_scratch0).wordExact_slice rfl _ ww) ((Memref.isWhole_whole cc0_scratch0).wordExact_slice rfl _ ww))

def loadW : P F (FVec F S512x768 .bf16) := do
  let q : Vec F S512x256 .bf16 ← Prog.lift (.load wqIn allRw.toLoadRect (View.loadsAt_vmem h_S512x256))
  let k : Vec F S512x256 .bf16 ← Prog.lift (.load wkIn allRw.toLoadRect (View.loadsAt_vmem h_S512x256))
  let v : Vec F S512x256 .bf16 ← Prog.lift (.load wvIn allRw.toLoadRect (View.loadsAt_vmem h_S512x256))
  pure (k0_pay3 q k v)
def loadWo : P F (FVec F S256x512 .bf16) := do
  let o : Vec F S256x512 .bf16 ← Prog.lift (.load woIn allRo.toLoadRect (View.loadsAt_vmem h_S256x512))
  pure (k0_pay4 o)

def loadRows (o : Fin 2 → Nat) (inb : RowsInb o) : P F (Vec F S256x512 .bf16) :=
  Prog.lift (.load rowsM (rowsR o inb).toLoadRect (View.loadsAt_vmem h_S256x512))

def putHead (h : Fin 4) (y : FVec F S256x64 .bf16) : P F PUnit := do
  let _ : Vec F S256x64 .bf16 ← Prog.lift (.load ctxM (headR h).toLoadRect (View.loadsAt_vmem h_S256x64))
  Prog.lift (.store ctxM (headR h) y Finset.univ
    (View.stores_vmem h_S256x64 ((Memref.isWhole_whole cc0_scratch1).storeExact_slice rfl _ (head_packed h)) (fun _ => rfl)) (.inl rfl))

/-- One group of rows: its four heads put side by side and read back. -/
def groupOf (w : FVec F S512x768 .bf16) (o : Fin 2 → Nat) (inb : RowsInb o) : P F (Vec F S256x256 .bf16) := do
  let x ← loadRows o inb
  putHead 0 (head w x 0)
  putHead 1 (head w x 1)
  putHead 2 (head w x 2)
  putHead 3 (head w x 3)
  Prog.lift (.load ctxM allRc.toLoadRect (View.loadsAt_vmem h_S256x256))

def putSend (j : Fin 3) (g : FVec F S1x256x512 .bf16) : P F PUnit := do
  let _ : Vec F S1x256x512 .bf16 ← Prog.lift (.load sendM (slotR j).toLoadRect (View.loadsAt_vmem h_S1x256x512))
  Prog.lift (.store sendM (slotR j) g Finset.univ
    (View.stores_vmem h_S1x256x512 ((Memref.isWhole_whole cc0_scratch2).storeExact_slice rfl _ (slot_packed j)) (fun _ => rfl)) (.inl rfl))

def sendProd (j : Fin 3) (t : Dev nD) : P F PUnit :=
  Prog.lift (.enqueueDma (slotOf sendM j) (.remote (Dev.tc t) (slotOf recvM j) (.dma (semAt cc0_scratch6 j).sem)) (.dma (semAt cc0_scratch7 j).sem)
    (((Memref.isWhole_whole cc0_scratch2).wordExact_slice rfl _ (slot_words j)).reshape _ _)
    (((Memref.isWhole_whole cc0_scratch3).wordExact_slice rfl _ (slot_words j)).reshape _ _) ⟨⟨rfl, Or.inl rfl⟩, trivial⟩)

def recvProd (j : Fin 3) : P F (Vec F S1x256x512 .bf16) := do
  Prog.lift (.waitDma2 (semAt cc0_scratch7 j).sem (slotOf recvM j) (slotOf recvM j)
    (((Memref.isWhole_whole cc0_scratch3).wordExact_slice rfl _ (slot_words j)).reshape _ _)
    (((Memref.isWhole_whole cc0_scratch3).wordExact_slice rfl _ (slot_words j)).reshape _ _))
  Prog.lift (.load recvM (slotR j).toLoadRect (View.loadsAt_vmem h_S1x256x512))

def awaitSent (j : Fin 3) : P F PUnit :=
  Prog.lift (.waitDma2 (semAt cc0_scratch6 j).sem (slotOf recvM j) (slotOf sendM j)
    (((Memref.isWhole_whole cc0_scratch3).wordExact_slice rfl _ (slot_words j)).reshape _ _)
    (((Memref.isWhole_whole cc0_scratch2).wordExact_slice rfl _ (slot_words j)).reshape _ _))

def storeOut (a : FVec F S256x512 .f32) : P F PUnit := do
  let _ : Vec F S2x128x512 .f32 ← Prog.lift (.load outM allR3.toLoadRect (View.loadsAt_vmem h_S2x128x512))
  Prog.lift (.store outM allR3 (k0_pay1 a) Finset.univ (View.stores_vmem_bits_univ h_S2x128x512 rfl) (.inl rfl))

/-- Send number `r`: the rows of device `c - 1 - r` awaited, worked off, their product sent to it. -/
def peerGroup (w : FVec F S512x768 .bf16) (wo : FVec F S256x512 .bf16) (c : Dev nD) (r : Fin 3) (j : Fin 3) (t : Dev nD) : P F PUnit := do
  awaitRows cc0_scratch5 r (k0_off3 c (BitVec.ofNat 32 (1 + r.val))) (k0_off3_inb c r) (k0_off3_wordsbf16 c r)
  let y ← groupOf w (k0_off4 c (BitVec.ofNat 32 (1 + r.val))) (k0_off4_inb c r)
  putSend j (toSend (projOut wo y))
  sendProd j t

/-- The whole body. -/
def flow : P F PUnit := do
  let c : Dev nD ← Prog.lift .deviceId
  signal ⟨k0_dev1 c, k0_dev1_lt c⟩
  signal ⟨k0_dev2 c, k0_dev2_lt c⟩
  signal ⟨k0_dev3 c, k0_dev3_lt c⟩
  awaitAll
  placeRows (k0_off1 c) (k0_off1_inb c) (k0_off1_packedbf16 c)
  sendRows 0 ⟨k0_dev4 c, k0_dev4_lt c⟩ (k0_off2 c) (k0_off2_inb c) (k0_off2_wordsbf16 c)
  sendRows 1 ⟨k0_dev5 c, k0_dev5_lt c⟩ (k0_off2 c) (k0_off2_inb c) (k0_off2_wordsbf16 c)
  sendRows 2 ⟨k0_dev6 c, k0_dev6_lt c⟩ (k0_off2 c) (k0_off2_inb c) (k0_off2_wordsbf16 c)
  let w ← loadW
  let wo ← loadWo
  let y ← groupOf w (k0_off1 c) (k0_off1_inb c)
  peerGroup w wo c 0 2 ⟨k0_dev7 c, k0_dev7_lt c⟩
  peerGroup w wo c 1 1 ⟨k0_dev8 c, k0_dev8_lt c⟩
  peerGroup w wo c 2 0 ⟨k0_dev9 c, k0_dev9_lt c⟩
  let p2 ← recvProd 2
  let p1 ← recvProd 1
  let p0 ← recvProd 0
  awaitRows cc0_scratch4 0 (k0_off2 c) (k0_off2_inb c) (k0_off2_wordsbf16 c)
  awaitRows cc0_scratch4 1 (k0_off2 c) (k0_off2_inb c) (k0_off2_wordsbf16 c)
  awaitRows cc0_scratch4 2 (k0_off2 c) (k0_off2_inb c) (k0_off2_wordsbf16 c)
  awaitSent 2
  awaitSent 1
  awaitSent 0
  storeOut (addRecv (addRecv (addRecv (projOut wo y) p2) p1) p0)

theorem body_eq_flow :
    cc0_body (F := F) xIn (Memref.isWhole_whole _) wqIn (Memref.isWhole_whole _) wkIn (Memref.isWhole_whole _) wvIn (Memref.isWhole_whole _)
      woIn (Memref.isWhole_whole _) outM (Memref.isWhole_whole _) rowsM (Memref.isWhole_whole _) ctxM (Memref.isWhole_whole _)
      sendM (Memref.isWhole_whole _) recvM (Memref.isWhole_whole _) cc0_scratch4 cc0_scratch5 cc0_scratch6 cc0_scratch7 = flow := by
  sl_kernel_rfl

end Cert.KernelIdeal.Work

end
-- ==== Proof.KernelIdeal.Buffers.lean ====
/- The kernel's buffers held part by part: the rows as the four devices' blocks, the products as three
   slots, the heads as one buffer that four stores fill. -/
module

public import proofs.«01_k».proof.Proof.KernelIdeal.Flow
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Ring.Trips
public import Idealize.ShloMosaic.Lib.ViewIndex

@[expose] public section

noncomputable section

namespace Cert.KernelIdeal.Work

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The ghost state: the pipeline's own beside the exchange's, whose duties are numbered 0, 1, 2. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The rows: a block for each device -/

/-- Where device `d`'s 256 rows begin. -/
def blkOff (d : Dev nD) : Fin 2 → Nat := ![256 * d.val, 0]
theorem blk_inb (d : Dev nD) : RowsInb (blkOff d) := by revert d; decide
abbrev blk (d : Dev nD) : Memref sig .tc .vmem S256x512 .bf16 := rowsAt (blkOff d) (blk_inb d)
abbrev blkSet (d : Dev nD) : Finset (cc0_scratch0 : Ref sig .tc).ty.Idx := (blk d).view.set

/-- Device `c` holds its buffer's block `d`, whatever is in it. -/
def rowsAny (c d : Dev nD) : sProp 𝕄 :=
  iprop(∃ f : Buf (Elt F) ((c : Thread nD τ).loc cc0_scratch0), ((c : Thread nD τ).loc cc0_scratch0) ↦[blkSet d]{fullShare} f)

/-- Device `c` holds a share of its buffer's block `d`, the rows `X` in it. -/
def rowsHold (c d : Dev nD) (q : PosShare TreeShare) (X : FVec F S256x512 .bf16) : sProp 𝕄 :=
  owns (c : Thread nD τ) (blk d) q X

instance (c d : Dev nD) : BI.Storable (upEmb : UEmb _ 𝕄) (rowsAny (F := F) c d) := by unfold rowsAny; infer_instance
instance (c d : Dev nD) (q : PosShare TreeShare) (X : FVec F S256x512 .bf16) : BI.Storable (upEmb : UEmb _ 𝕄) (rowsHold c d q X) := by
  unfold rowsHold; infer_instance

theorem blk_disjoint (d d' : Dev nD) (h : d ≠ d') : Disjoint (blkSet d) (blkSet d') :=
  View.disjoint_slice (Rect.unit_disjoint (0 : Fin 2) (by
    have hne : d.val ≠ d'.val := fun e => h (Fin.ext e)
    show 256 * d.val + 256 ≤ 256 * d'.val ∨ 256 * d'.val + 256 ≤ 256 * d.val
    omega))

theorem blk_cover : (Finset.univ.biUnion blkSet) = Finset.univ := by
  refine Finset.eq_univ_iff_forall.mpr fun (i : S1024x512.Idx) => Finset.mem_biUnion.mpr ?_
  have h0 : (i 0).val < 1024 := (i 0).isLt
  have h1 : (i 1).val < 512 := (i 1).isLt
  refine ⟨⟨(i 0).val / 256, by show _ < 4; omega⟩, Finset.mem_univ _, ?_⟩
  rw [show blkSet _ = Finset.map (View.whole cc0_scratch0).emb _ from View.set_slice (View.whole cc0_scratch0) (rowsR (blkOff _) (blk_inb _))]
  refine Finset.mem_map.mpr ⟨i, Rect.mem_set_unit.mpr fun a => ?_, rfl⟩
  match a with
  | ⟨0, _⟩ =>
    show 256 * ((i 0).val / 256) ≤ (i 0).val ∧ (i 0).val < 256 * ((i 0).val / 256) + 256
    omega
  | ⟨1, _⟩ =>
    show 0 ≤ (i 1).val ∧ (i 1).val < 0 + 512
    omega

/-- The whole buffer is its four blocks, -/
theorem rows_split (c : Dev nD) (f : Buf (Elt F) ((c : Thread nD τ).loc cc0_scratch0)) :
    (((c : Thread nD τ).loc cc0_scratch0) ↦{fullShare} f : sProp 𝕄) ⊢ bigSep Finset.univ fun d : Dev nD => rowsAny (F := F) c d := by
  refine (Entails.of_eq (Ring.pointsTo_blocks (ℓ := (c : Thread nD τ).loc cc0_scratch0) blkSet blk_disjoint blk_cover f)).trans ?_
  have h (d : Dev nD) : (((c : Thread nD τ).loc cc0_scratch0) ↦[blkSet d]{fullShare} f : sProp 𝕄) ⊢ rowsAny (F := F) c d := by
    unfold rowsAny
    iintro H; iexists f; iexact H
  exact bigSep_mono fun d _ => h d

/-- and the four blocks are the whole again. -/
theorem rows_join (c : Dev nD) (f₀ : Buf (Elt F) ((c : Thread nD τ).loc cc0_scratch0)) :
    (bigSep Finset.univ fun d : Dev nD => rowsAny (F := F) c d)
      ⊢ (iprop(∃ f : Buf (Elt F) ((c : Thread nD τ).loc cc0_scratch0), ((c : Thread nD τ).loc cc0_scratch0) ↦{fullShare} f) : sProp 𝕄) :=
  Ring.pointsTo_blocks_join_exists (ℓ := (c : Thread nD τ).loc cc0_scratch0) blkSet blk_disjoint blk_cover f₀

theorem rowsHold_any (c d : Dev nD) (X : FVec F S256x512 .bf16) : rowsHold c d fullShare X ⊢ rowsAny (F := F) c d := by
  unfold rowsHold rowsAny owns
  iintro ⟨%f, -, H⟩; iexists f; iexact H

/-! ### The device's own block in four shares: one for each send, one kept to read from -/

abbrev kept : PosShare TreeShare := fullShare.left
abbrev lent (i : Fin 3) : PosShare TreeShare := Ring.shares3 fullShare.right i

theorem rows_lend (c d : Dev nD) (X : FVec F S256x512 .bf16) :
    rowsHold c d fullShare X
      ⊢ iprop(rowsHold c d kept X ∗ rowsHold c d (lent 0) X ∗ rowsHold c d (lent 1) X ∗ rowsHold c d (lent 2) X) := by
  unfold rowsHold owns
  iintro ⟨%f, %hf, H⟩
  ihave H' := (pointsTo_share (I := (blk d).view.set) (f := f) (PosShare.mem_left_op_right fullShare)).1 $$ H
  icases H' with ⟨Hk, Hl⟩
  ihave Hl' := (Ring.pointsTo_thirds (I := (blk d).view.set) fullShare.right f).1 $$ Hl
  icases Hl' with ⟨H0, H1, H2⟩
  isplitl [Hk]; · iexists f; isplitr; · (ipureintro; exact hf)
                  iexact Hk
  isplitl [H0]; · iexists f; isplitr; · (ipureintro; exact hf)
                  iexact H0
  isplitl [H1]; · iexists f; isplitr; · (ipureintro; exact hf)
                  iexact H1
  iexists f; isplitr; · (ipureintro; exact hf)
  iexact H2

/-- Contents that one block reads alike are alike on it. -/
theorem blk_congr (c d : Dev nD) (q : PosShare TreeShare) (f g : Buf (Elt F) ((blk d).view.loc (c : Thread nD τ)))
    (h : (blk d).view.read (Elt F) f = (blk d).view.read (Elt F) g) :
    ((blk d).view.loc (c : Thread nD τ) ↦[(blk d).view.set]{q} f : sProp 𝕄) = (blk d).view.loc (c : Thread nD τ) ↦[(blk d).view.set]{q} g :=
  pointsTo_congr fun i hi => by
    obtain ⟨x, -, rfl⟩ := Finset.mem_map.mp hi
    exact View.eq_of_read_eq (congrFun h x)

theorem rows_unlend (c d : Dev nD) (X : FVec F S256x512 .bf16) :
    iprop(rowsHold c d kept X ∗ rowsHold c d (lent 0) X ∗ rowsHold c d (lent 1) X ∗ rowsHold c d (lent 2) X)
      ⊢ rowsHold c d fullShare X := by
  unfold rowsHold owns
  iintro ⟨⟨%f, %hf, Hk⟩, ⟨%f0, %hf0, H0⟩, ⟨%f1, %hf1, H1⟩, ⟨%f2, %hf2, H2⟩⟩
  ihave H0' := (Entails.of_eq (blk_congr c d (lent 0) f0 f (hf0.trans hf.symm))) $$ H0
  ihave H1' := (Entails.of_eq (blk_congr c d (lent 1) f1 f (hf1.trans hf.symm))) $$ H1
  ihave H2' := (Entails.of_eq (blk_congr c d (lent 2) f2 f (hf2.trans hf.symm))) $$ H2
  iexists f
  isplitr; · (ipureintro; exact hf)
  iapply (pointsTo_share (I := (blk d).view.set) (f := f) (PosShare.mem_left_op_right fullShare)).2
  isplitl [Hk]; · iexact Hk
  iapply (Ring.pointsTo_thirds (I := (blk d).view.set) fullShare.right f).2
  isplitl [H0']; · iexact H0'
  isplitl [H1']; · iexact H1'
  iexact H2'

/-! ## The products: three slots -/

abbrev slotS (M : Memref sig .tc .vmem S3x256x512 .bf16) (j : Fin 3) : Memref sig .tc .vmem S1x256x512 .bf16 := M.slice (slotR j) (fun _ => rfl)

abbrev slotSet (M : Memref sig .tc .vmem S3x256x512 .bf16) (j : Fin 3) : Finset M.view.ty.Idx := (slotS M j).view.set

/-- Device `c` holds slot `j`, whatever is in it; -/
def slotAny (c : Dev nD) (M : Memref sig .tc .vmem S3x256x512 .bf16) (j : Fin 3) : sProp 𝕄 :=
  iprop(∃ f : Buf (Elt F) (M.view.loc (c : Thread nD τ)), M.view.loc (c : Thread nD τ) ↦[slotSet M j]{fullShare} f)
/-- with the product `X` in it. -/
def slotHold (c : Dev nD) (M : Memref sig .tc .vmem S3x256x512 .bf16) (j : Fin 3) (X : FVec F S1x256x512 .bf16) : sProp 𝕄 :=
  owns (c : Thread nD τ) (slotS M j) fullShare X

instance (c : Dev nD) (M : Memref sig .tc .vmem S3x256x512 .bf16) (j : Fin 3) : BI.Storable (upEmb : UEmb _ 𝕄) (slotAny (F := F) c M j) := by
  unfold slotAny; infer_instance
instance (c : Dev nD) (M : Memref sig .tc .vmem S3x256x512 .bf16) (j : Fin 3) (X : FVec F S1x256x512 .bf16) :
    BI.Storable (upEmb : UEmb _ 𝕄) (slotHold c M j X) := by unfold slotHold; infer_instance

theorem slotHold_any (c : Dev nD) (M : Memref sig .tc .vmem S3x256x512 .bf16) (j : Fin 3) (X : FVec F S1x256x512 .bf16) :
    slotHold c M j X ⊢ slotAny (F := F) c M j := by
  unfold slotHold slotAny owns
  iintro ⟨%f, -, H⟩; iexists f; iexact H

theorem slot_disjoint (M : Memref sig .tc .vmem S3x256x512 .bf16) (j j' : Fin 3) (h : j ≠ j') : Disjoint (slotSet M j) (slotSet M j') :=
  View.disjoint_slice (Rect.unit_disjoint (0 : Fin 3) (by
    have hne : j.val ≠ j'.val := fun e => h (Fin.ext e)
    show j.val + 1 ≤ j'.val ∨ j'.val + 1 ≤ j.val
    omega))

theorem slot_cover (M : Memref sig .tc .vmem S3x256x512 .bf16) (hM : M.view.set = Finset.univ) :
    (Finset.univ.biUnion (slotSet M)) = Finset.univ := by
  refine Finset.eq_univ_iff_forall.mpr fun i => Finset.mem_biUnion.mpr ?_
  have hi : i ∈ M.view.set := hM ▸ Finset.mem_univ i
  obtain ⟨x, -, rfl⟩ := Finset.mem_map.mp hi
  have h1 : (x 1).val < 256 := (x 1).isLt
  have h2 : (x 2).val < 512 := (x 2).isLt
  refine ⟨x 0, Finset.mem_univ _, ?_⟩
  show M.view.emb x ∈ (M.view.slice (slotR (x 0))).set
  rw [View.set_slice]
  refine Finset.mem_map_of_mem _ (Rect.mem_set_unit.mpr fun a => ?_)
  match a with
  | ⟨0, _⟩ =>
    show (x 0).val ≤ (x 0).val ∧ (x 0).val < (x 0).val + 1
    omega
  | ⟨1, _⟩ =>
    show 0 ≤ (x 1).val ∧ (x 1).val < 0 + 256
    omega
  | ⟨2, _⟩ =>
    show 0 ≤ (x 2).val ∧ (x 2).val < 0 + 512
    omega

theorem slots_split (c : Dev nD) (M : Memref sig .tc .vmem S3x256x512 .bf16) (hM : M.view.set = Finset.univ) (f : Buf (Elt F) (M.view.loc (c : Thread nD τ))) :
    (M.view.loc (c : Thread nD τ) ↦{fullShare} f : sProp 𝕄) ⊢ bigSep Finset.univ fun j : Fin 3 => slotAny (F := F) c M j := by
  refine (Entails.of_eq (Ring.pointsTo_blocks (ℓ := M.view.loc (c : Thread nD τ)) (slotSet M) (slot_disjoint M) (slot_cover M hM) f)).trans ?_
  have h (j : Fin 3) : (M.view.loc (c : Thread nD τ) ↦[slotSet M j]{fullShare} f : sProp 𝕄) ⊢ slotAny (F := F) c M j := by
    unfold slotAny
    iintro H; iexists f; iexact H
  exact bigSep_mono fun j _ => h j

theorem slots_join (c : Dev nD) (M : Memref sig .tc .vmem S3x256x512 .bf16) (hM : M.view.set = Finset.univ) (f₀ : Buf (Elt F) (M.view.loc (c : Thread nD τ))) :
    (bigSep Finset.univ fun j : Fin 3 => slotAny (F := F) c M j)
      ⊢ (iprop(∃ f : Buf (Elt F) (M.view.loc (c : Thread nD τ)), M.view.loc (c : Thread nD τ) ↦{fullShare} f) : sProp 𝕄) :=
  Ring.pointsTo_blocks_join_exists (ℓ := M.view.loc (c : Thread nD τ)) (slotSet M) (slot_disjoint M) (slot_cover M hM) f₀

theorem slotOf_set (M : Memref sig .tc .vmem S3x256x512 .bf16) (j : Fin 3) : (slotOf M j).view.set = (slotS M j).view.set :=
  View.set_reshape _ _

/-- A slot sent to a slot arrives as it was. -/
theorem slot_landed (M M' : Memref sig .tc .vmem S3x256x512 .bf16) (j : Fin 3) (fs : M.view.ty.Contents (Elt F)) (fd : M'.view.ty.Contents (Elt F)) :
    (slotS M' j).view.read (Elt F) ((slotOf M' j).view.write (Elt F) fd ((slotOf M j).view.read (Elt F) fs) Finset.univ)
      = (slotS M j).view.read (Elt F) fs := by
  funext y
  obtain ⟨x, rfl⟩ := (Shape.reshapeEquiv squeezes_S1x256x512_S256x512.numel_eq).surjective y
  exact View.read_write_reshape (slotS M' j).view squeezes_S1x256x512_S256x512.numel_eq fd ((slotOf M j).view.read (Elt F) fs) x

/-! ## The heads: one buffer, filled by four stores -/

def ctxAny (c : Dev nD) : sProp 𝕄 :=
  iprop(∃ f : Buf (Elt F) ((c : Thread nD τ).loc cc0_scratch1), ((c : Thread nD τ).loc cc0_scratch1) ↦{fullShare} f)

/-- The head a column belongs to, and its place in it. -/
def headIdx (y : S256x256.Idx) : Fin 4 := ⟨(y 1).val / 64, by have : (y 1).val < 256 := (y 1).isLt; omega⟩
def headCol (y : S256x256.Idx) : S256x64.Idx := fun a => match a with
  | ⟨0, _⟩ => ⟨(y 0).val, (y 0).isLt⟩
  | ⟨1, _⟩ => ⟨(y 1).val % 64, Nat.mod_lt _ (by decide)⟩

/-- Four heads side by side. -/
def side (y : Fin 4 → FVec F S256x64 .bf16) : FVec F S256x256 .bf16 := fun i => y (headIdx i) (headCol i)

theorem headIdx_emb (h : Fin 4) (x : S256x64.Idx) : headIdx ((headR h).emb x) = h := by
  have hx : (x 1).val < 64 := (x 1).isLt
  refine Fin.ext ?_
  show (64 * h.val + 1 * (x 1).val) / 64 = h.val
  omega
theorem headCol_emb (h : Fin 4) (x : S256x64.Idx) : headCol ((headR h).emb x) = x := by
  have hx : (x 1).val < 64 := (x 1).isLt
  refine funext fun a => Fin.ext ?_
  match a with
  | ⟨0, _⟩ =>
    show 0 + 1 * (x 0).val = (x 0).val
    omega
  | ⟨1, _⟩ =>
    show (64 * h.val + 1 * (x 1).val) % 64 = (x 1).val
    omega

theorem mem_headR (y : S256x256.Idx) : y ∈ (headR (headIdx y)).set := by
  have h0 : (y 0).val < 256 := (y 0).isLt
  refine Rect.mem_set_unit.mpr fun a => ?_
  match a with
  | ⟨0, _⟩ =>
    show 0 ≤ (y 0).val ∧ (y 0).val < 0 + 256
    omega
  | ⟨1, _⟩ =>
    show 64 * ((y 1).val / 64) ≤ (y 1).val ∧ (y 1).val < 64 * ((y 1).val / 64) + 64
    omega

theorem side_emb (y : Fin 4 → FVec F S256x64 .bf16) (h : Fin 4) (z : S256x64.Idx) : y h z = side y ((headR h).emb z) := by
  unfold side; rw [headIdx_emb, headCol_emb]

theorem four (h : Fin 4) : h = 0 ∨ h = 1 ∨ h = 2 ∨ h = 3 := by revert h; decide

/-- After the four stores the buffer reads the four heads, whatever it held. -/
theorem side_read (y : Fin 4 → FVec F S256x64 .bf16) (f : (cc0_scratch1 : Ref sig .tc).ty.Contents (Elt F)) :
    ctxM.view.readAt (Elt F) allRc.toLoadRect (ctxM.view.writes (Elt F) f
      [⟨headR 3, y 3⟩, ⟨headR 2, y 2⟩, ⟨headR 1, y 1⟩, ⟨headR 0, y 0⟩]) = side y := by
  refine (Memref.readAt_unit_zero (Elt F) cc0_scratch1 (funext fun a => by fin_cases a <;> rfl) _ _).trans ?_
  funext i
  refine View.read_writes_apply_of_pieces ctxM.view f (side y)
    [⟨headR 3, y 3⟩, ⟨headR 2, y 2⟩, ⟨headR 1, y 1⟩, ⟨headR 0, y 0⟩] ?_ i ?_
  · exact List.forall_mem_cons.mpr ⟨side_emb y 3, List.forall_mem_cons.mpr ⟨side_emb y 2, List.forall_mem_cons.mpr ⟨side_emb y 1,
      List.forall_mem_cons.mpr ⟨side_emb y 0, List.forall_mem_nil _⟩⟩⟩⟩
  · have hi := mem_headR i
    rcases four (headIdx i) with h | h | h | h <;> rw [h] at hi
    · exact ⟨_, List.mem_cons_of_mem _ (List.mem_cons_of_mem _ (List.mem_cons_of_mem _ List.mem_cons_self)), hi⟩
    · exact ⟨_, List.mem_cons_of_mem _ (List.mem_cons_of_mem _ List.mem_cons_self), hi⟩
    · exact ⟨_, List.mem_cons_of_mem _ List.mem_cons_self, hi⟩
    · exact ⟨_, List.mem_cons_self, hi⟩

end Cert.KernelIdeal.Work

end
-- ==== Proof.KernelIdeal.Exchange.lean ====
/- The exchange between the four devices, written down before it is run.

   Each device has thirteen semaphores, each used for one round. Index `i` is a distance around the
   ring less one: device `c` pays index `i` of device `up i c`, and is paid index `i` by `dn i c`.

   * the barrier: three units, unit `i` from `dn i c`. With it `dn i c` hands over its own buffer's
     block for `c`'s rows and its own slot for the product that `c` will send it. Awaited whole,
     before anything is sent.
   * rows arrived, `i`: one transfer from `dn i c`: that device's rows are in their block.
   * rows sent, `i`: the device's own transfer: the share of its own block that was lent comes back.
   * product arrived, `i`: one transfer from `dn i c`: slot `i` holds that device's part of `c`'s rows.
   * product sent, `i`: the device's own transfer: slot `i` of the products to send comes back.

   A wait is allowed below everything still owed: the barrier below the rows, the rows below the
   products; while it waits for products a device owes nothing. -/
module

public import proofs.«01_k».proof.Proof.KernelIdeal.Buffers

@[expose] public section

noncomputable section

namespace Cert.KernelIdeal.Work

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The ring of four -/

set_option backward.proofsInPublic true in
def up (i : Fin 3) (c : Dev nD) : Dev nD := ⟨(c.val + (i.val + 1)) % 4, Nat.mod_lt _ (by decide)⟩
set_option backward.proofsInPublic true in
def dn (i : Fin 3) (c : Dev nD) : Dev nD := ⟨(c.val + (3 - i.val)) % 4, Nat.mod_lt _ (by decide)⟩

theorem dn_up (i : Fin 3) (c : Dev nD) : dn i (up i c) = c := by revert i c; decide
theorem up_dn (i : Fin 3) (c : Dev nD) : up i (dn i c) = c := by revert i c; decide
/-- Down by one index is up by the mirrored one. -/
theorem dn_eq (i : Fin 3) (c : Dev nD) : dn i c = up i.rev c := by revert i c; decide

def around (i : Fin 3) : Dev nD ≃ Dev nD := ⟨up i, dn i, dn_up i, up_dn i⟩

/-- Everything over the four devices, beginning at `c`. -/
theorem bigSep_ring (c : Dev nD) (Φ : Dev nD → sProp 𝕄) :
    bigSep Finset.univ Φ = iprop(Φ c ∗ Φ (up 0 c) ∗ Φ (up 1 c) ∗ Φ (up 2 c)) :=
  bigSep_univ_eq_bigSepL [c, up 0 c, up 1 c, up 2 c] (by revert c; decide) (by revert c; decide) Φ

/-! ## The cells -/

/-- A semaphore's role: the barrier, or one of the four kinds of transfer signal (rows sent, rows arrived,
    products sent, products arrived) at an index. -/
abbrev Role : Type := Unit ⊕ (Fin 4 × Fin 3)
abbrev bar : Role := .inl ()
abbrev xfer (t : Fin 4) (i : Fin 3) : Role := .inr (t, i)

abbrev arrOf (t : Fin 4) : DmaSems sig S3 := match t with
  | 0 => cc0_scratch4 | 1 => cc0_scratch5 | 2 => cc0_scratch6 | 3 => cc0_scratch7

abbrev osem (k : Fin 4 × Fin 3) : SemLoc sig := .dma (semAt (arrOf k.1) k.2).sem
abbrev csem (r : Role) : SemLoc sig := match r with
  | .inl _ => .reg barS.sem
  | .inr k => osem k
abbrev cell (c : Dev nD) (r : Role) : GSem nD τ sig := ((c : Thread nD τ), csem r)

/-- The role of a semaphore; the staging ones have none. -/
def roleOf (s : SemLoc sig) : Option Role := match s with
  | .reg s => if s = barS.sem then some bar else none
  | .dma q => if 6 ≤ q.val then some (xfer (Fin.ofNat 4 ((q.val - 6) / 3)) (Fin.ofNat 3 ((q.val - 6) % 3))) else none

theorem roleOf_csem (r : Role) : roleOf (csem r) = some r := by revert r; decide

theorem csem_injective : Function.Injective csem := fun r r' h => by
  have := congrArg roleOf h
  rw [roleOf_csem, roleOf_csem] at this
  exact Option.some.inj this

theorem cell_injective : Function.Injective (fun p : Dev nD × Role => cell p.1 p.2) := by
  rintro ⟨c, r⟩ ⟨c', r'⟩ h
  have h1 : c = c' := Fin.ext (congrArg (fun g : GSem nD τ sig => g.1.1.val) h)
  have h2 : r = r' := csem_injective (congrArg Prod.snd h)
  rw [h1, h2]

/-- What a transfer of one block of rows, or of one product, credits. -/
abbrev N : ℕ := (blk 0).view.dmaCredit
theorem N_pos : 0 < N := View.dmaCredit_pos _ (by decide)

/-! ## The contents -/

variable (m : (ℓ : Loc nD τ sig) → Buf (Elt F) ℓ)

/-- Each device's arguments as the body finds them staged. -/
def xArg (c : Dev nD) : (cc0_stg0_0 : Ref sig .tc).ty.Contents (Elt F) :=
  (win0_0.blk (0 : Fin 1)).view.read (Elt F) (m ((c : Thread nD τ).loc main_arg0))
def wqArg (c : Dev nD) : (cc0_stg1_0 : Ref sig .tc).ty.Contents (Elt F) :=
  (win0_1.blk (0 : Fin 1)).view.read (Elt F) (m ((c : Thread nD τ).loc main_arg1))
def wkArg (c : Dev nD) : (cc0_stg2_0 : Ref sig .tc).ty.Contents (Elt F) :=
  (win0_2.blk (0 : Fin 1)).view.read (Elt F) (m ((c : Thread nD τ).loc main_arg2))
def wvArg (c : Dev nD) : (cc0_stg3_0 : Ref sig .tc).ty.Contents (Elt F) :=
  (win0_3.blk (0 : Fin 1)).view.read (Elt F) (m ((c : Thread nD τ).loc main_arg3))
def woArg (c : Dev nD) : (cc0_stg4_0 : Ref sig .tc).ty.Contents (Elt F) :=
  (win0_4.blk (0 : Fin 1)).view.read (Elt F) (m ((c : Thread nD τ).loc main_arg4))

/-- A device's rows, its three weights side by side, its output weights. -/
def rowsV (c : Dev nD) : FVec F S256x512 .bf16 := k0_pay2 (xArg m c)
def wV (c : Dev nD) : FVec F S512x768 .bf16 := k0_pay3 (wqArg m c) (wkArg m c) (wvArg m c)
def woV (c : Dev nD) : FVec F S256x512 .bf16 := k0_pay4 (woArg m c)

/-- Device `c`'s part of device `d`'s result: its own four heads of `d`'s rows times its output weights. -/
def part (c d : Dev nD) : FVec F S256x512 .f32 := projOut (woV m c) (side (head (wV m c) (rowsV m d)))

/-- Device `c`'s result: its own part and the three others'. -/
def result (c : Dev nD) : Vec F S2x128x512 .f32 :=
  k0_pay1 (addRecv (addRecv (addRecv (part m c c) (toSend (part m (dn 2 c) c))) (toSend (part m (dn 1 c) c))) (toSend (part m (dn 0 c) c)))

/-! ## The schedule -/

def barPay (c : Dev nD) (i : Fin 3) : sProp 𝕄 := iprop(rowsAny (F := F) (dn i c) c ∗ slotAny (F := F) (dn i c) recvM i.rev)

def xferPay (c : Dev nD) (t : Fin 4) (i : Fin 3) : sProp 𝕄 := match t with
  | 0 => rowsHold c c (lent i) (rowsV m c)
  | 1 => rowsHold c (dn i c) fullShare (rowsV m (dn i c))
  | 2 => slotAny (F := F) c sendM i
  | 3 => slotHold c recvM i (toSend (part m (dn i c) c))

instance (c : Dev nD) (i : Fin 3) : BI.Storable (upEmb : UEmb _ 𝕄) (barPay (F := F) c i) := by unfold barPay; infer_instance
instance (c : Dev nD) (t : Fin 4) (i : Fin 3) : BI.Storable (upEmb : UEmb _ 𝕄) (xferPay m c t i) := by
  unfold xferPay; split <;> infer_instance

def dutiesOf (r : Option Role) : Finset (Fin 3) := match r with
  | some (.inl _) => Finset.univ
  | some (.inr _) => {0}
  | none => ∅
def amountOf (r : Option Role) : ℕ := match r with
  | some (.inl _) => 1
  | _ => N
def payOf (c : Dev nD) (r : Option Role) (d : Fin 3) : sProp 𝕄 := match r with
  | some (.inl _) => barPay c d
  | some (.inr k) => xferPay m c k.1 k.2
  | none => iprop(emp)

theorem amountOf_pos (r : Option Role) : 0 < amountOf r := by
  unfold amountOf; split
  · exact Nat.one_pos
  · exact N_pos

def plan : Rounds.Schedule (GSem nD τ sig) (Fin 3) 𝕄 where
  duties g r := if r = 0 ∧ g.1.2 = .tc then dutiesOf (roleOf g.2) else ∅
  unitless _ := False
  amount g _ _ := amountOf (roleOf g.2)
  payload g _ d := payOf m g.1.1 (roleOf g.2) d
  amount_pos g _ _ _ := amountOf_pos _

instance plan_storable (g : GSem nD τ sig) (r : ℕ) (d : Fin 3) : BI.Storable (upEmb : UEmb _ 𝕄) ((plan (F := F) m).payload g r d) := by
  show BI.Storable upEmb (payOf m g.1.1 (roleOf g.2) d)
  unfold payOf; split <;> infer_instance

theorem duties_cell (c : Dev nD) (r : Role) : (plan (F := F) m).duties (cell c r) 0 = dutiesOf (some r) := by
  dsimp only [plan]; rw [if_pos ⟨rfl, rfl⟩, roleOf_csem]
theorem duties_later (g : GSem nD τ sig) : ∀ r, 1 ≤ r → (plan (F := F) m).duties g r = ∅ := fun r hr => by
  dsimp only [plan]; rw [if_neg fun h => by omega]
theorem amount_cell (c : Dev nD) (r : Role) (k : ℕ) (d : Fin 3) : (plan (F := F) m).amount (cell c r) k d = amountOf (some r) := by
  dsimp only [plan]; rw [roleOf_csem]
theorem payload_cell (c : Dev nD) (r : Role) (k : ℕ) (d : Fin 3) : (plan (F := F) m).payload (cell c r) k d = payOf m c (some r) d := by
  dsimp only [plan]; rw [roleOf_csem]

theorem expect_bar (c : Dev nD) : (plan (F := F) m).expect (cell c bar) 0 = 3 := by
  unfold Schedule.expect Schedule.amountOf
  rw [duties_cell, Finset.sum_congr rfl fun d _ => amount_cell m c bar 0 d]
  rfl
theorem expect_xfer (c : Dev nD) (t : Fin 4) (i : Fin 3) : (plan (F := F) m).expect (cell c (xfer t i)) 0 = N := by
  unfold Schedule.expect Schedule.amountOf
  rw [duties_cell, Finset.sum_congr rfl fun d _ => amount_cell m c (xfer t i) 0 d]
  exact Finset.sum_singleton _ _

/-- The barrier's round hands over, for each of the other devices, its block for `c`'s rows and its slot for `c`'s product. -/
theorem rest_bar (c : Dev nD) :
    (bigSep ((plan (F := F) m).duties (cell c bar) 0 \ ∅) fun d => (plan (F := F) m).payload (cell c bar) 0 d)
      = iprop((rowsAny (F := F) (up 2 c) c ∗ slotAny (F := F) (up 2 c) recvM 2) ∗ (rowsAny (F := F) (up 1 c) c ∗ slotAny (F := F) (up 1 c) recvM 1)
          ∗ (rowsAny (F := F) (up 0 c) c ∗ slotAny (F := F) (up 0 c) recvM 0)) := by
  rw [Finset.sdiff_empty, duties_cell, bigSep_congr fun d _ => payload_cell m c bar 0 d]
  refine (Ring.bigSep_fin3 (fun d => (barPay c d : sProp 𝕄))).trans ?_
  unfold barPay
  rw [dn_eq, dn_eq, dn_eq]
  rfl
theorem rest_xfer (c : Dev nD) (t : Fin 4) (i : Fin 3) :
    (bigSep ((plan (F := F) m).duties (cell c (xfer t i)) 0 \ ∅) fun d => (plan (F := F) m).payload (cell c (xfer t i)) 0 d) = xferPay m c t i := by
  rw [Finset.sdiff_empty, duties_cell, bigSep_congr fun d _ => payload_cell m c (xfer t i) 0 d]
  exact bigSep_singleton

/-! ## What each device owes, and the levels -/

/-- What `c` owes at index `i`: a unit of a barrier, a block of rows, a product. -/
abbrev tBar (c : Dev nD) (i : Fin 3) : CellTallies nD τ sig Unit := tallyAt (cell (up i c) bar) () 1
abbrev tRows (c : Dev nD) (i : Fin 3) : CellTallies nD τ sig Unit := tallyAt (cell (up i c) (xfer 1 i)) () N
abbrev tProd (c : Dev nD) (i : Fin 3) : CellTallies nD τ sig Unit := tallyAt (cell (up i c) (xfer 3 i)) () N

/-- What is still owed: the last entry is paid first. -/
def owed0 (c : Dev nD) : CellTallies nD τ sig Unit := 0 + tProd c 0
def owed1 (c : Dev nD) : CellTallies nD τ sig Unit := owed0 c + tProd c 1
/-- Once the rows are sent, the three products. -/
def owedProds (c : Dev nD) : CellTallies nD τ sig Unit := owed1 c + tProd c 2
def owed3 (c : Dev nD) : CellTallies nD τ sig Unit := owedProds c + tRows c 2
def owed4 (c : Dev nD) : CellTallies nD τ sig Unit := owed3 c + tRows c 1
/-- After the signals, the rows and the products. -/
def owedXfers (c : Dev nD) : CellTallies nD τ sig Unit := owed4 c + tRows c 0
def owed6 (c : Dev nD) : CellTallies nD τ sig Unit := owedXfers c + tBar c 2
def owed7 (c : Dev nD) : CellTallies nD τ sig Unit := owed6 c + tBar c 1
/-- At the start, everything. -/
def owedAll (c : Dev nD) : CellTallies nD τ sig Unit := owed7 c + tBar c 0

def L (g : GSem nD τ sig) : Finset Unit := if g.1.2 = .tc then {()} else ∅
def levelOf (r : Option Role) : ℕ := match r with
  | some (.inl _) => 1
  | some (.inr (1, _)) => 2
  | some (.inr (3, _)) => 3
  | _ => 0
def lv (g : GSem nD τ sig) (_ : Unit) : ℕ := levelOf (roleOf g.2)

theorem L_of_ne (g : GSem nD τ sig) (h : g.1.2 ≠ .tc) : L g = ∅ := if_neg h
theorem lv_cell (c : Dev nD) (r : Role) (u : Unit) : lv (cell c r) u = levelOf (some r) := by unfold lv; rw [roleOf_csem]

/-- Everything owed lies above level `k`. -/
def Above (k : ℕ) (O : CellTallies nD τ sig Unit) : Prop := ∀ g u, 0 < O g u → g.1.2 = .tc ∧ k < lv g u

theorem above_zero (k : ℕ) : Above k 0 := fun g u h => absurd h (Nat.lt_irrefl 0)
theorem above_add (k : ℕ) (O : CellTallies nD τ sig Unit) (c : Dev nD) (r : Role) (n : ℕ) (hO : Above k O) (hr : k < levelOf (some r)) :
    Above k (O + tallyAt (cell c r) () n) := fun g u h => by
  rw [Pi.add_apply, Finsupp.add_apply, tallyAt_apply] at h
  by_cases hg : g = cell c r ∧ u = ()
  · rw [hg.1]; exact ⟨rfl, by rw [lv_cell]; exact hr⟩
  · rw [if_neg hg] at h; exact hO g u h

theorem above_prods (c : Dev nD) (k : ℕ) (h : k < 3) : Above k (owedProds c) :=
  above_add _ _ _ _ _ (above_add _ _ _ _ _ (above_add _ _ _ _ _ (above_zero k) h) h) h
theorem above_owed1 (c : Dev nD) : Above 2 (owed1 c) :=
  above_add _ _ _ _ _ (above_add _ _ _ _ _ (above_zero 2) (by decide)) (by decide)
theorem above_owed0 (c : Dev nD) : Above 2 (owed0 c) := above_add _ _ _ _ _ (above_zero 2) (by decide)
theorem above_xfers (c : Dev nD) (k : ℕ) (h : k < 2) : Above k (owedXfers c) :=
  above_add _ _ _ _ _ (above_add _ _ _ _ _ (above_add _ _ _ _ _ (above_prods c k (by omega)) h) h) h
theorem above_all (c : Dev nD) : Above 0 (owedAll c) :=
  above_add _ _ _ _ _ (above_add _ _ _ _ _ (above_add _ _ _ _ _ (above_xfers c 0 (by decide)) (by decide)) (by decide)) (by decide)

theorem mayWait (c : Dev nD) (s : SemLoc sig) (O : CellTallies nD τ sig Unit) (h : Above (levelOf (roleOf s)) O) :
    (levAts L lv : sProp 𝕄) ⊢ MayWait (c : Thread nD τ) s () O :=
  MayOwe.of_cut (L := L) (lev := lv) (levelOf (roleOf s))
    (fun p hp => by rw [Finset.mem_singleton.mp hp]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

end Cert.KernelIdeal.Work

end
-- ==== Proof.KernelIdeal.Steps.lean ====
/- What each step of the body does with what a device holds. -/
module

public import proofs.«01_k».proof.Proof.KernelIdeal.Exchange

@[expose] public section

noncomputable section

namespace Cert.KernelIdeal.Work

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-- Device `c` runs `p`, to end in `Q`. -/
abbrev runs (c : Dev nD) {α : Type} (p : P F α) (Q : α → sProp 𝕄) : sProp 𝕄 :=
  wp frame (wpE (defs₀ (F := F)) 𝒱₀ (c : Thread nD τ) none) Set.univ p Q

variable (m : (ℓ : Loc nD τ sig) → Buf (Elt F) ℓ) (K : Dev nD × Role → ℕ)

/-- Every cell's invariant, and that its round has begun. -/
def records : sProp 𝕄 :=
  iprop((bigSep Finset.univ fun p : Dev nD × Role => cellInv ER (plan m) (K p) (cell p.1 p.2))
    ∗ bigSep Finset.univ fun p : Dev nD × Role => reached ER (cell p.1 p.2) 0)

instance records_persistent : BI.Persistent (records m K) := by unfold records; infer_instance

theorem inv_at (c : Dev nD) (r : Role) : records m K ⊢ cellInv ER (plan m) (K (c, r)) (cell c r) := by
  have h : (bigSep Finset.univ fun p : Dev nD × Role => (cellInv ER (plan m) (K p) (cell p.1 p.2) : sProp 𝕄))
      ⊢ cellInv ER (plan m) (K (c, r)) (cell c r) := bigSep_elim (Finset.mem_univ (c, r))
  unfold records
  iintro ⟨HI, -⟩
  iapply h; iexact HI
theorem reached_at (c : Dev nD) (r : Role) : records m K ⊢ reached ER (cell c r) 0 := by
  have h : (bigSep Finset.univ fun p : Dev nD × Role => (reached ER (cell p.1 p.2) 0 : sProp 𝕄)) ⊢ reached ER (cell c r) 0 :=
    bigSep_elim (Finset.mem_univ (c, r))
  unfold records
  iintro ⟨-, HR⟩
  iapply h; iexact HR

/-- What a device owes, whatever it has waited for. -/
def owesAny (c : Dev nD) (O : CellTallies nD τ sig Unit) : sProp 𝕄 := iprop(∃ W, owes (c : Thread nD τ) O W)

theorem bar_duty (c : Dev nD) (i : Fin 3) : i ∈ (plan (F := F) m).duties (cell c bar) 0 := by rw [duties_cell]; exact Finset.mem_univ _
theorem xfer_duty (c : Dev nD) (t : Fin 4) (i : Fin 3) : 0 ∈ (plan (F := F) m).duties (cell c (xfer t i)) 0 := by
  rw [duties_cell]; exact Finset.mem_singleton_self _
theorem bar_pay (c : Dev nD) (i : Fin 3) : barPay (F := F) c i ⊢ (plan m).payload (cell c bar) 0 i := Entails.of_eq (payload_cell m c bar 0 i).symm
theorem xfer_pay (c : Dev nD) (t : Fin 4) (i : Fin 3) : xferPay m c t i ⊢ (plan m).payload (cell c (xfer t i)) 0 0 :=
  Entails.of_eq (payload_cell m c (xfer t i) 0 0).symm

/-! ## Signals and waits -/

theorem signal_step (c : Dev nD) (i : Fin 3) (t : Dev nD) (ht : t = up i c) (O : CellTallies nD τ sig Unit) {α : Type}
    (k : PUnit → P F α) (Q : α → sProp 𝕄) :
    iprop(records m K ∗ owesAny c (O + tBar c i) ∗ dutyTok ER (cell (up i c) bar) 0 i ∗ rowsAny c (up i c) ∗ slotAny c recvM i.rev)
      ⊢ iprop((owesAny c O -∗ runs c (k ⟨⟩) Q) -∗ runs c (signal t >>= k) Q) := by
  subst ht
  unfold owesAny
  simp only [signal, semSignalWord, Prog.bind_op, Prog.bind_ret]
  iintro ⟨#HR, ⟨%W, HO⟩, Ht, Hrows, Hslot⟩ Hk
  iapply (Rounds.wp_signal 𝒱₀ ER (plan m) (c : Thread nD τ) none (dst := (up i c : Thread nD τ)) (κ := K (up i c, bar)) (r := 0)
      (d := i) (bar_duty m (up i c) i) ((amount_cell m (up i c) bar 0 i).trans (by decide)) () O rfl (W := W))
    $$ [HO Ht Hrows Hslot]
  · isplitr; · iapply (inv_at m K (up i c) bar); iexact HR
    isplitl [HO]; · iexact HO
    isplitl [Ht]; · iexact Ht
    isplitl [Hrows Hslot]
    · iapply (bar_pay m (up i c) i)
      unfold barPay
      rw [dn_up]
      isplitl [Hrows]; · iexact Hrows
      iexact Hslot
    iapply (reached_at m K (up i c) bar); iexact HR
  iintro HO
  iapply Hk
  iexists W; iexact HO

/-- The wait for the barrier, and its cell closed. -/
theorem awaitAll_step (c : Dev nD) (O : CellTallies nD τ sig Unit) (hO : Above 1 O) {α : Type}
    (k : PUnit → P F α) (Q : α → sProp 𝕄) :
    iprop(records m K ∗ levAts L lv ∗ owesAny c O ∗ cred (tallyAt (cell c bar) () 3) ∗ atPos ER (cell c bar) 0 ∅ 0)
      ⊢ iprop(((owesAny c O ∗ semVal (cell c bar) 0
            ∗ (rowsAny (F := F) (up 2 c) c ∗ slotAny (F := F) (up 2 c) recvM 2) ∗ (rowsAny (F := F) (up 1 c) c ∗ slotAny (F := F) (up 1 c) recvM 1)
            ∗ (rowsAny (F := F) (up 0 c) c ∗ slotAny (F := F) (up 0 c) recvM 0)) -∗ runs c (k ⟨⟩) Q) -∗ runs c (awaitAll >>= k) Q) := by
  unfold owesAny
  simp only [awaitAll, semWaitWord, Prog.bind_op, Prog.bind_ret]
  iintro ⟨#HR, #Hlev, ⟨%W, HO⟩, Hc, Hat⟩ Hk
  iapply (Rounds.wp_wait_rest_token 𝒱₀ ER (plan m) (c : Thread nD τ) none (κ := K (c, bar))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (inv_at m K c bar); iexact HR
    isplitl [Hc]; · iexact Hc
    isplitl [HO]; · iexact HO
    isplitr; · iapply (mayWait c (csem bar) O (by rw [roleOf_csem]; exact hO)); iexact Hlev
    iexact Hat
  iintro ⟨HO, Hat, -, Hpay⟩
  ihave Hp := (Entails.of_eq (rest_bar m c)) $$ Hpay
  imod (Rounds.cell_close ER (plan m) (Set.mem_univ (K (c, bar))) (fun h => h) (R := 0 + 1) (duties_later m (cell c bar))) $$ [Hat] with Hz
  · isplitr; · iapply (inv_at m K c bar); iexact HR
    iexact Hat
  iapply Hk
  isplitl [HO]; · iexists _; iexact HO
  isplitl [Hz]; · iexact Hz
  iexact Hp

/-- The wait for a transfer of a block's size, and its cell closed. -/
theorem await_step (c : Dev nD) (t : Fin 4) (i : Fin 3) (O : CellTallies nD τ sig Unit) (hO : Above (levelOf (some (xfer t i))) O)
    {sp sp' : Space} {s s' : Shape} {e e' : EltTy} {src : Memref sig .tc sp s e} {dst : Memref sig .tc sp' s' e'}
    {hsrc : src.view.WordExact} {hdst : dst.view.WordExact}
    (hN : dst.view.dmaCredit = N) {α : Type} (k : PUnit → P F α) (Q : α → sProp 𝕄) :
    iprop(records m K ∗ levAts L lv ∗ owesAny c O ∗ cred (tallyAt (cell c (xfer t i)) () N) ∗ atPos ER (cell c (xfer t i)) 0 ∅ 0)
      ⊢ iprop(((owesAny c O ∗ semVal (cell c (xfer t i)) 0 ∗ xferPay m c t i) -∗ runs c (k ⟨⟩) Q)
        -∗ runs c (.op (.waitDma2 (semAt (arrOf t) i).sem src dst hsrc hdst) k) Q) := by
  unfold owesAny
  rw [← hN]
  iintro ⟨#HR, #Hlev, ⟨%W, HO⟩, Hc, Hat⟩ Hk
  iapply (Rounds.wp_wait_rest_token 𝒱₀ ER (plan m) (c : Thread nD τ) none (κ := K (c, xfer t i))
      (wpE_waitDma2_eq 𝒱₀ (c : Thread nD τ) none Set.univ) (Set.mem_univ _) () (O := O) (W := W) (R := 0) (m := 0) (T := ∅)
      (by rw [Nat.zero_add]; exact hN.trans (expect_xfer m c t i).symm)) $$ [Hc HO Hat]
  · isplitr; · iapply (inv_at m K c (xfer t i)); iexact HR
    isplitl [Hc]; · iexact Hc
    isplitl [HO]; · iexact HO
    isplitr; · iapply (mayWait c (csem (xfer t i)) O (by rw [roleOf_csem]; exact hO)); iexact Hlev
    iexact Hat
  iintro ⟨HO, Hat, -, Hpay⟩
  ihave Hp := (Entails.of_eq (rest_xfer m c t i)) $$ Hpay
  imod (Rounds.cell_close ER (plan m) (Set.mem_univ (K (c, xfer t i))) (fun h => h) (R := 0 + 1) (duties_later m (cell c (xfer t i)))) $$ [Hat] with Hz
  · isplitr; · iapply (inv_at m K c (xfer t i)); iexact HR
    iexact Hat
  iapply Hk
  isplitl [HO]; · iexists _; iexact HO
  isplitl [Hz]; · iexact Hz
  iexact Hp

/-! ## Transfers -/

theorem rows_intro (c d : Dev nD) (q : PosShare TreeShare) (X : FVec F S256x512 .bf16) (f : Buf (Elt F) ((blk d).view.loc (c : Thread nD τ)))
    (hf : (blk d).view.read (Elt F) f = X) : ((blk d).view.loc (c : Thread nD τ) ↦[(blk d).view.set]{q} f : sProp 𝕄) ⊢ rowsHold c d q X := by
  unfold rowsHold owns
  iintro H; iexists f
  isplitr; · (ipureintro; exact hf)
  iexact H

theorem rows_back (c : Dev nD) (i : Fin 3) (f : Buf (Elt F) ((blk c).view.loc (c : Thread nD τ))) (hf : (blk c).view.read (Elt F) f = rowsV m c) :
    ((blk c).view.loc (c : Thread nD τ) ↦[(blk c).view.set]{lent i} f : sProp 𝕄) ⊢ (plan m).payload (cell c (xfer 0 i)) 0 0 :=
  (rows_intro c c (lent i) (rowsV m c) f hf).trans (xfer_pay m c 0 i)

theorem rows_landed (c : Dev nD) (i : Fin 3) (f : Buf (Elt F) ((blk c).view.loc (c : Thread nD τ))) (hf : (blk c).view.read (Elt F) f = rowsV m c)
    (fd : Buf (Elt F) ((blk c).view.loc (up i c : Thread nD τ))) :
    ((blk c).view.loc (up i c : Thread nD τ) ↦[(blk c).view.set]{fullShare}
        ((blk c).view.write (Elt F) fd ((blk c).view.read (Elt F) f) Finset.univ) : sProp 𝕄) ⊢ (plan m).payload (cell (up i c) (xfer 1 i)) 0 0 := by
  have e : xferPay m (up i c) 1 i = rowsHold (up i c) c fullShare (rowsV m c) := by
    show rowsHold (up i c) (dn i (up i c)) fullShare (rowsV m (dn i (up i c))) = _
    rw [dn_up]
  have h := xfer_pay m (up i c) 1 i
  rw [e] at h
  exact (rows_intro (up i c) c fullShare (rowsV m c) _ ((View.read_write_univ _ _).trans hf)).trans h

theorem slot_intro (c : Dev nD) (M : Memref sig .tc .vmem S3x256x512 .bf16) (j : Fin 3) (X : FVec F S1x256x512 .bf16) (f : Buf (Elt F) ((slotS M j).view.loc (c : Thread nD τ)))
    (hf : (slotS M j).view.read (Elt F) f = X) :
    ((slotS M j).view.loc (c : Thread nD τ) ↦[(slotS M j).view.set]{fullShare} f : sProp 𝕄) ⊢ slotHold c M j X := by
  unfold slotHold owns
  iintro H; iexists f
  isplitr; · (ipureintro; exact hf)
  iexact H

theorem prod_back (c : Dev nD) (j : Fin 3) (f : Buf (Elt F) ((slotOf sendM j).view.loc (c : Thread nD τ))) :
    ((slotOf sendM j).view.loc (c : Thread nD τ) ↦[(slotOf sendM j).view.set]{fullShare} f : sProp 𝕄) ⊢ (plan m).payload (cell c (xfer 2 j)) 0 0 := by
  have h : ((slotOf sendM j).view.loc (c : Thread nD τ) ↦[(slotOf sendM j).view.set]{fullShare} f : sProp 𝕄) ⊢ slotAny c sendM j := by
    unfold slotAny
    rw [slotOf_set]
    iintro H; iexists f; iexact H
  exact h.trans (xfer_pay m c 2 j)

theorem prod_landed (c : Dev nD) (j : Fin 3) (f : Buf (Elt F) ((slotOf sendM j).view.loc (c : Thread nD τ)))
    (hf : (slotS sendM j).view.read (Elt F) f = toSend (part m c (up j c))) (fd : Buf (Elt F) ((slotOf recvM j).view.loc (up j c : Thread nD τ))) :
    ((slotOf recvM j).view.loc (up j c : Thread nD τ) ↦[(slotOf recvM j).view.set]{fullShare}
        ((slotOf recvM j).view.write (Elt F) fd ((slotOf sendM j).view.read (Elt F) f) Finset.univ) : sProp 𝕄)
      ⊢ (plan m).payload (cell (up j c) (xfer 3 j)) 0 0 := by
  rw [slotOf_set]
  have e : xferPay m (up j c) 3 j = slotHold (up j c) recvM j (toSend (part m c (up j c))) := by
    show slotHold (up j c) recvM j (toSend (part m (dn j (up j c)) (up j c))) = _
    rw [dn_up]
  have h := xfer_pay m (up j c) 3 j
  rw [e] at h
  exact (slot_intro (up j c) recvM j (toSend (part m c (up j c))) _ ((slot_landed sendM recvM j f fd).trans hf)).trans h

/-- The device's rows sent to `up i c`: the share lent to the transfer, and the block at the receiver, are handed over. -/
theorem sendRows_step (c : Dev nD) (i : Fin 3) (t : Dev nD) (ht : t = up i c) (o : Fin 2 → Nat) (ho : o = blkOff c) (inb : RowsInb o)
    (ww : (rowsR o inb).WholeWords (EltTy.packing .bf16)) (O : CellTallies nD τ sig Unit) {α : Type} (k : PUnit → P F α) (Q : α → sProp 𝕄) :
    iprop(records m K ∗ owesAny c (O + tRows c i) ∗ rowsHold c c (lent i) (rowsV m c) ∗ rowsAny (up i c) c
        ∗ dutyTok ER (cell c (xfer 0 i)) 0 0 ∗ dutyTok ER (cell (up i c) (xfer 1 i)) 0 0)
      ⊢ iprop(((cred (tallyAt (cell c (xfer 0 i)) () N) ∗ owesAny c O) -∗ runs c (k ⟨⟩) Q)
        -∗ runs c (sendRows i t o inb ww >>= k) Q) := by
  subst ht; subst ho
  unfold owesAny
  simp only [sendRows, Prog.lift, Prog.bind_op, Prog.bind_ret]
  unfold rowsHold rowsAny owns
  iintro ⟨#HR, ⟨%W, HO⟩, ⟨%f, %hf, Hs⟩, ⟨%fd, Hd⟩, Ht0, Ht1⟩ Hk
  iapply (Rounds.wp_send_pointsTo 𝒱₀ ER (plan m) (c : Thread nD τ) none (κ₁ := K (c, xfer 0 i)) (κ₂ := K (up i c, xfer 1 i))
    (c' := (up i c : Thread nD τ)) (src := blk c) (dst := blk c)
    (r₁ := 0) (r₂ := 0) (d₁ := 0) (d₂ := 0) (fs := f) (fd := fd) (q := lent i) (xfer_duty m c 0 i) (xfer_duty m (up i c) 1 i)
    () () N rfl (amount_cell m c (xfer 0 i) 0 0) (amount_cell m (up i c) (xfer 1 i) 0 0) O rfl (W := W) (rows_back m c i f hf) (rows_landed m c i f hf fd))
    $$ [HO Hs Hd Ht0 Ht1]
  · isplitr; · iapply (inv_at m K c (xfer 0 i)); iexact HR
    isplitr; · iapply (inv_at m K (up i c) (xfer 1 i)); iexact HR
    isplitl [Hs]; · iexact Hs
    isplitl [Hd]; · iexact Hd
    isplitl [HO]; · iexact HO
    isplitl [Ht0]; · iexact Ht0
    isplitr; · iapply (reached_at m K c (xfer 0 i)); iexact HR
    isplitl [Ht1]; · iexact Ht1
    iapply (reached_at m K (up i c) (xfer 1 i)); iexact HR
  iintro ⟨Hc, HO⟩
  iapply Hk
  isplitl [Hc]; · iexact Hc
  iexists W; iexact HO

/-- A product sent to `up j c`, whose slot `j` the barrier handed over. -/
theorem sendProd_step (c : Dev nD) (j : Fin 3) (t : Dev nD) (ht : t = up j c) (O : CellTallies nD τ sig Unit)
    {α : Type} (k : PUnit → P F α) (Q : α → sProp 𝕄) :
    iprop(records m K ∗ owesAny c (O + tProd c j) ∗ slotHold c sendM j (toSend (part m c (up j c))) ∗ slotAny (up j c) recvM j
        ∗ dutyTok ER (cell c (xfer 2 j)) 0 0 ∗ dutyTok ER (cell (up j c) (xfer 3 j)) 0 0)
      ⊢ iprop(((cred (tallyAt (cell c (xfer 2 j)) () N) ∗ owesAny c O) -∗ runs c (k ⟨⟩) Q)
        -∗ runs c (sendProd j t >>= k) Q) := by
  subst ht
  unfold owesAny
  simp only [sendProd, Prog.lift, Prog.bind_op, Prog.bind_ret]
  unfold slotHold slotAny owns
  iintro ⟨#HR, ⟨%W, HO⟩, ⟨%f, %hf, Hs⟩, ⟨%fd, Hd⟩, Ht0, Ht1⟩ Hk
  iapply (Rounds.wp_send_pointsTo 𝒱₀ ER (plan m) (c : Thread nD τ) none (κ₁ := K (c, xfer 2 j)) (κ₂ := K (up j c, xfer 3 j))
    (c' := (up j c : Thread nD τ)) (src := slotOf sendM j) (dst := slotOf recvM j)
    (r₁ := 0) (r₂ := 0) (d₁ := 0) (d₂ := 0) (fs := f) (fd := fd) (q := fullShare) (xfer_duty m c 2 j) (xfer_duty m (up j c) 3 j)
    () () N rfl (amount_cell m c (xfer 2 j) 0 0) (amount_cell m (up j c) (xfer 3 j) 0 0) O rfl (W := W) (prod_back m c j f) (prod_landed m c j f hf fd))
    $$ [HO Hs Hd Ht0 Ht1]
  · isplitr; · iapply (inv_at m K c (xfer 2 j)); iexact HR
    isplitr; · iapply (inv_at m K (up j c) (xfer 3 j)); iexact HR
    isplitl [Hs]; · rw [slotOf_set]; iexact Hs
    isplitl [Hd]; · rw [slotOf_set]; iexact Hd
    isplitl [HO]; · iexact HO
    isplitl [Ht0]; · iexact Ht0
    isplitr; · iapply (reached_at m K c (xfer 2 j)); iexact HR
    isplitl [Ht1]; · iexact Ht1
    iapply (reached_at m K (up j c) (xfer 3 j)); iexact HR
  iintro ⟨Hc, HO⟩
  iapply Hk
  isplitl [Hc]; · iexact Hc
  iexists W; iexact HO

/-! ## Loads and stores -/

/-- A whole window's buffer read. -/
abbrev win (c : Dev nD) (b : Ref sig .tc) (f : b.ty.Contents (Elt F)) : sProp 𝕄 := ((c : Thread nD τ).loc b) ↦{fullShare} f

theorem zero2 : (![0, 0] : Fin 2 → Nat) = fun _ => 0 := funext fun a => by fin_cases a <;> rfl
theorem zero3 : (![0, 0, 0] : Fin 3 → Nat) = fun _ => 0 := funext fun a => by fin_cases a <;> rfl

theorem read_x (f : (cc0_stg0_0 : Ref sig .tc).ty.Contents (Elt F)) : xIn.view.readAt (Elt F) allR3.toLoadRect f = f :=
  Memref.readAt_unit_zero (Elt F) cc0_stg0_0 zero3 _ f
theorem read_wq (f : (cc0_stg1_0 : Ref sig .tc).ty.Contents (Elt F)) : wqIn.view.readAt (Elt F) allRw.toLoadRect f = f :=
  Memref.readAt_unit_zero (Elt F) cc0_stg1_0 zero2 _ f
theorem read_wk (f : (cc0_stg2_0 : Ref sig .tc).ty.Contents (Elt F)) : wkIn.view.readAt (Elt F) allRw.toLoadRect f = f :=
  Memref.readAt_unit_zero (Elt F) cc0_stg2_0 zero2 _ f
theorem read_wv (f : (cc0_stg3_0 : Ref sig .tc).ty.Contents (Elt F)) : wvIn.view.readAt (Elt F) allRw.toLoadRect f = f :=
  Memref.readAt_unit_zero (Elt F) cc0_stg3_0 zero2 _ f
theorem read_wo (f : (cc0_stg4_0 : Ref sig .tc).ty.Contents (Elt F)) : woIn.view.readAt (Elt F) allRo.toLoadRect f = f :=
  Memref.readAt_unit_zero (Elt F) cc0_stg4_0 zero2 _ f
theorem write_out (f w : (cc0_stg5_0 : Ref sig .tc).ty.Contents (Elt F)) :
    (outM.access allR3 : View sig .tc _ _ _).write (Elt F) f w Finset.univ = w :=
  Memref.write_access_unit_zero_univ (Elt F) cc0_stg5_0 zero3 _ f w

/-- The device's rows placed: its own block reads them. -/
theorem placeRows_step (c : Dev nD) (o : Fin 2 → Nat) (ho : o = blkOff c) (inb : RowsInb o) (pk : (rowsR o inb).PackedRows (EltTy.packing .bf16))
    {α : Type} (k : PUnit → P F α) (Q : α → sProp 𝕄) :
    iprop(win c cc0_stg0_0 (xArg m c) ∗ rowsAny c c)
      ⊢ iprop(((win c cc0_stg0_0 (xArg m c) ∗ rowsHold c c fullShare (rowsV m c)) -∗ runs c (k ⟨⟩) Q)
        -∗ runs c (placeRows o inb pk >>= k) Q) := by
  subst ho
  simp only [placeRows, Prog.lift, Prog.bind_op, Prog.bind_ret]
  unfold rowsAny
  iintro ⟨Hx, ⟨%f, Hf⟩⟩ Hk
  iapply (wp_load 𝒱₀ (c : Thread nD τ) none Set.univ (m := xIn) (f := xArg m c) (Finset.subset_univ _)) $$ Hx
  iintro Hx
  iapply (wp_load_rect 𝒱₀ (c : Thread nD τ) none Set.univ (m := rowsM) (r := rowsR (blkOff c) inb) (S := blkSet c) (f := f) (subset_refl _)) $$ Hf
  iintro Hf
  iapply (wp_store 𝒱₀ (c : Thread nD τ) none Set.univ (m := rowsM) (r := rowsR (blkOff c) inb) (S := blkSet c) (Mk := Finset.univ) (f := f) (subset_refl _)) $$ Hf
  iintro Hf
  rw [read_x]
  iapply Hk
  isplitl [Hx]; · iexact Hx
  iapply (rows_intro c c fullShare (rowsV m c) _ (View.read_write_univ _ _)); iexact Hf

theorem loadW_step (c : Dev nD) {α : Type} (k : FVec F S512x768 .bf16 → P F α) (Q : α → sProp 𝕄) :
    iprop(win c cc0_stg1_0 (wqArg m c) ∗ win c cc0_stg2_0 (wkArg m c) ∗ win c cc0_stg3_0 (wvArg m c))
      ⊢ iprop(((win c cc0_stg1_0 (wqArg m c) ∗ win c cc0_stg2_0 (wkArg m c) ∗ win c cc0_stg3_0 (wvArg m c)) -∗ runs c (k (wV m c)) Q)
        -∗ runs c (loadW >>= k) Q) := by
  simp only [loadW, Prog.lift, Prog.bind_op, Prog.bind_ret, Prog.pure_eq_ret]
  iintro ⟨H1, H2, H3⟩ Hk
  iapply (wp_load 𝒱₀ (c : Thread nD τ) none Set.univ (m := wqIn) (f := wqArg m c) (Finset.subset_univ _)) $$ H1
  iintro H1
  iapply (wp_load 𝒱₀ (c : Thread nD τ) none Set.univ (m := wkIn) (f := wkArg m c) (Finset.subset_univ _)) $$ H2
  iintro H2
  iapply (wp_load 𝒱₀ (c : Thread nD τ) none Set.univ (m := wvIn) (f := wvArg m c) (Finset.subset_univ _)) $$ H3
  iintro H3
  rw [read_wq, read_wk, read_wv]
  iapply Hk
  isplitl [H1]; · iexact H1
  isplitl [H2]; · iexact H2
  iexact H3

theorem loadWo_step (c : Dev nD) {α : Type} (k : FVec F S256x512 .bf16 → P F α) (Q : α → sProp 𝕄) :
    win c cc0_stg4_0 (woArg m c) ⊢ iprop((win c cc0_stg4_0 (woArg m c) -∗ runs c (k (woV m c)) Q) -∗ runs c (loadWo >>= k) Q) := by
  simp only [loadWo, Prog.lift, Prog.bind_op, Prog.bind_ret, Prog.pure_eq_ret]
  iintro H Hk
  iapply (wp_load 𝒱₀ (c : Thread nD τ) none Set.univ (m := woIn) (f := woArg m c) (Finset.subset_univ _)) $$ H
  iintro H
  rw [read_wo]
  iapply Hk; iexact H

/-- Four heads stored one after the other, and read back as one. -/
theorem heads_step (c : Dev nD) (y : Fin 4 → FVec F S256x64 .bf16) {α : Type} (k : FVec F S256x256 .bf16 → P F α) (Q : α → sProp 𝕄) :
    ctxAny c ⊢ iprop((ctxAny c -∗ runs c (k (side y)) Q)
      -∗ runs c (putHead 0 (y 0) >>= fun _ => putHead 1 (y 1) >>= fun _ => putHead 2 (y 2) >>= fun _ => putHead 3 (y 3) >>= fun _ =>
        (Prog.lift (.load ctxM allRc.toLoadRect (View.loadsAt_vmem h_S256x256)) : P F (Vec F S256x256 .bf16)) >>= k) Q) := by
  unfold ctxAny
  simp only [putHead, Prog.lift, Prog.bind_op, Prog.bind_ret]
  iintro ⟨%g, Hg⟩ Hk
  iapply (wp_load 𝒱₀ (c : Thread nD τ) none Set.univ (m := ctxM) (f := g) (Finset.subset_univ _)) $$ Hg
  iintro Hg
  iapply (wp_store_writes₀ 𝒱₀ (c : Thread nD τ) none Set.univ (m := ctxM) (r := headR 0) (f := g) (Finset.subset_univ _)) $$ Hg
  iintro Hg
  iapply (wp_load 𝒱₀ (c : Thread nD τ) none Set.univ (m := ctxM) (Finset.subset_univ _)) $$ Hg
  iintro Hg
  iapply (wp_store_writes 𝒱₀ (c : Thread nD τ) none Set.univ (m := ctxM) (r := headR 1) (f := g) (Finset.subset_univ _)) $$ Hg
  iintro Hg
  iapply (wp_load 𝒱₀ (c : Thread nD τ) none Set.univ (m := ctxM) (Finset.subset_univ _)) $$ Hg
  iintro Hg
  iapply (wp_store_writes 𝒱₀ (c : Thread nD τ) none Set.univ (m := ctxM) (r := headR 2) (f := g) (Finset.subset_univ _)) $$ Hg
  iintro Hg
  iapply (wp_load 𝒱₀ (c : Thread nD τ) none Set.univ (m := ctxM) (Finset.subset_univ _)) $$ Hg
  iintro Hg
  iapply (wp_store_writes 𝒱₀ (c : Thread nD τ) none Set.univ (m := ctxM) (r := headR 3) (f := g) (Finset.subset_univ _)) $$ Hg
  iintro Hg
  iapply (wp_load 𝒱₀ (c : Thread nD τ) none Set.univ (m := ctxM) (Finset.subset_univ _)) $$ Hg
  iintro Hg
  rw [side_read y g]
  iapply Hk
  iexists _; iexact Hg

/-- One group of rows worked off: its four heads side by side. -/
theorem groupOf_step (c d : Dev nD) (q : PosShare TreeShare) (w : FVec F S512x768 .bf16) (X : FVec F S256x512 .bf16)
    (o : Fin 2 → Nat) (ho : o = blkOff d) (inb : RowsInb o) {α : Type} (k : FVec F S256x256 .bf16 → P F α) (Q : α → sProp 𝕄) :
    iprop(rowsHold c d q X ∗ ctxAny c)
      ⊢ iprop(((rowsHold c d q X ∗ ctxAny c) -∗ runs c (k (side (head w X))) Q) -∗ runs c (groupOf w o inb >>= k) Q) := by
  subst ho
  have hread : runs c (groupOf w (blkOff d) inb >>= k) Q = runs c (loadRows (blkOff d) inb >>= fun x =>
      putHead 0 (head w x 0) >>= fun _ => putHead 1 (head w x 1) >>= fun _ => putHead 2 (head w x 2) >>= fun _ => putHead 3 (head w x 3) >>= fun _ =>
        (Prog.lift (.load ctxM allRc.toLoadRect (View.loadsAt_vmem h_S256x256)) : P F (Vec F S256x256 .bf16)) >>= k) Q := by
    unfold groupOf; simp only [bind_assoc]
  rw [hread]
  simp only [loadRows, Prog.lift, Prog.bind_op, Prog.bind_ret]
  unfold rowsHold owns
  iintro ⟨⟨%f, %hf, Hf⟩, Hg⟩ Hk
  iapply (wp_load_rect 𝒱₀ (c : Thread nD τ) none Set.univ (m := rowsM) (r := rowsR (blkOff d) inb) (S := blkSet d) (f := f) (subset_refl _)) $$ Hf
  iintro Hf
  rw [show (rowsM.access (rowsR (blkOff d) inb)).read (Elt F) f = X from hf]
  iapply (heads_step c (head w X) k Q) $$ Hg
  iintro Hg
  iapply Hk
  isplitl [Hf]
  · iexists f
    isplitr; · (ipureintro; exact hf)
    iexact Hf
  iexact Hg

/-- A product put in its slot. -/
theorem putSend_step (c : Dev nD) (j : Fin 3) (g : FVec F S1x256x512 .bf16) {α : Type} (k : PUnit → P F α) (Q : α → sProp 𝕄) :
    slotAny c sendM j ⊢ iprop((slotHold c sendM j g -∗ runs c (k ⟨⟩) Q) -∗ runs c (putSend j g >>= k) Q) := by
  simp only [putSend, Prog.lift, Prog.bind_op, Prog.bind_ret]
  unfold slotAny
  iintro ⟨%f, Hf⟩ Hk
  iapply (wp_load_rect 𝒱₀ (c : Thread nD τ) none Set.univ (m := sendM) (r := slotR j) (S := slotSet sendM j) (f := f) (subset_refl _)) $$ Hf
  iintro Hf
  iapply (wp_store 𝒱₀ (c : Thread nD τ) none Set.univ (m := sendM) (r := slotR j) (S := slotSet sendM j) (Mk := Finset.univ) (f := f) (subset_refl _)) $$ Hf
  iintro Hf
  iapply Hk
  iapply (slot_intro c sendM j g _ (View.read_write_univ _ _)); iexact Hf

/-- A product read from its slot. -/
theorem loadRecv_step (c : Dev nD) (j : Fin 3) (X : FVec F S1x256x512 .bf16) {α : Type} (k : Vec F S1x256x512 .bf16 → P F α) (Q : α → sProp 𝕄) :
    slotHold c recvM j X ⊢ iprop((slotHold c recvM j X -∗ runs c (k X) Q)
      -∗ runs c (Prog.lift (.load recvM (slotR j).toLoadRect (View.loadsAt_vmem h_S1x256x512)) >>= k) Q) := by
  simp only [Prog.lift, Prog.bind_op, Prog.bind_ret]
  unfold slotHold owns
  iintro ⟨%f, %hf, Hf⟩ Hk
  iapply (wp_load_rect 𝒱₀ (c : Thread nD τ) none Set.univ (m := recvM) (r := slotR j) (S := slotSet recvM j) (f := f) (subset_refl _)) $$ Hf
  iintro Hf
  rw [show (recvM.access (slotR j)).read (Elt F) f = X from hf]
  iapply Hk
  iexists f
  isplitr; · (ipureintro; exact hf)
  iexact Hf

theorem storeOut_step (c : Dev nD) (a : FVec F S256x512 .f32) (f : (cc0_stg5_0 : Ref sig .tc).ty.Contents (Elt F)) {α : Type} (k : PUnit → P F α) (Q : α → sProp 𝕄) :
    win c cc0_stg5_0 f ⊢ iprop((win c cc0_stg5_0 (k0_pay1 a) -∗ runs c (k ⟨⟩) Q) -∗ runs c (storeOut a >>= k) Q) := by
  simp only [storeOut, Prog.lift, Prog.bind_op, Prog.bind_ret]
  iintro H Hk
  iapply (wp_load 𝒱₀ (c : Thread nD τ) none Set.univ (m := outM) (f := f) (Finset.subset_univ _)) $$ H
  iintro H
  iapply (wp_store 𝒱₀ (c : Thread nD τ) none Set.univ (m := outM) (r := allR3) (Mk := Finset.univ) (f := f) (Finset.subset_univ _)) $$ H
  iintro H
  rw [write_out]
  iapply Hk; iexact H

/-! ## The waits, by what they bring -/

/-- The rows of `dn r c` have arrived. -/
theorem awaitArrived_step (c : Dev nD) (r : Fin 3) (O : CellTallies nD τ sig Unit) (hO : Above 2 O)
    (o : Fin 2 → Nat) (inb : RowsInb o) (ww : (rowsR o inb).WholeWords (EltTy.packing .bf16)) {α : Type} (k : PUnit → P F α) (Q : α → sProp 𝕄) :
    iprop(records m K ∗ levAts L lv ∗ owesAny c O ∗ cred (tallyAt (cell c (xfer 1 r)) () N) ∗ atPos ER (cell c (xfer 1 r)) 0 ∅ 0)
      ⊢ iprop(((owesAny c O ∗ semVal (cell c (xfer 1 r)) 0 ∗ rowsHold c (dn r c) fullShare (rowsV m (dn r c))) -∗ runs c (k ⟨⟩) Q)
        -∗ runs c (awaitRows cc0_scratch5 r o inb ww >>= k) Q) := by
  simp only [awaitRows, Prog.lift, Prog.bind_op, Prog.bind_ret]
  refine await_step m K c 1 r O hO (src := rowsAt o inb) (dst := rowsAt o inb) ?_ k Q
  rfl

/-- The device's own send `i` is done: its share comes back. -/
theorem awaitRowsSent_step (c : Dev nD) (i : Fin 3) (O : CellTallies nD τ sig Unit) (hO : Above 0 O)
    (o : Fin 2 → Nat) (inb : RowsInb o) (ww : (rowsR o inb).WholeWords (EltTy.packing .bf16)) {α : Type} (k : PUnit → P F α) (Q : α → sProp 𝕄) :
    iprop(records m K ∗ levAts L lv ∗ owesAny c O ∗ cred (tallyAt (cell c (xfer 0 i)) () N) ∗ atPos ER (cell c (xfer 0 i)) 0 ∅ 0)
      ⊢ iprop(((owesAny c O ∗ semVal (cell c (xfer 0 i)) 0 ∗ rowsHold c c (lent i) (rowsV m c)) -∗ runs c (k ⟨⟩) Q)
        -∗ runs c (awaitRows cc0_scratch4 i o inb ww >>= k) Q) := by
  simp only [awaitRows, Prog.lift, Prog.bind_op, Prog.bind_ret]
  refine await_step m K c 0 i O hO (src := rowsAt o inb) (dst := rowsAt o inb) ?_ k Q
  rfl

theorem awaitSent_step (c : Dev nD) (j : Fin 3) (O : CellTallies nD τ sig Unit) (hO : Above 0 O) {α : Type} (k : PUnit → P F α) (Q : α → sProp 𝕄) :
    iprop(records m K ∗ levAts L lv ∗ owesAny c O ∗ cred (tallyAt (cell c (xfer 2 j)) () N) ∗ atPos ER (cell c (xfer 2 j)) 0 ∅ 0)
      ⊢ iprop(((owesAny c O ∗ semVal (cell c (xfer 2 j)) 0 ∗ slotAny (F := F) c sendM j) -∗ runs c (k ⟨⟩) Q)
        -∗ runs c (awaitSent j >>= k) Q) := by
  simp only [awaitSent, Prog.lift, Prog.bind_op, Prog.bind_ret]
  refine await_step m K c 2 j O hO (src := slotOf recvM j) (dst := slotOf sendM j) ?_ k Q
  rfl

/-- The product of `dn j c` has arrived and is read. -/
theorem recvProd_step (c : Dev nD) (j : Fin 3) (O : CellTallies nD τ sig Unit) (hO : Above 3 O) {α : Type} (k : Vec F S1x256x512 .bf16 → P F α) (Q : α → sProp 𝕄) :
    iprop(records m K ∗ levAts L lv ∗ owesAny c O ∗ cred (tallyAt (cell c (xfer 3 j)) () N) ∗ atPos ER (cell c (xfer 3 j)) 0 ∅ 0)
      ⊢ iprop(((owesAny c O ∗ semVal (cell c (xfer 3 j)) 0 ∗ slotHold c recvM j (toSend (part m (dn j c) c))) -∗ runs c (k (toSend (part m (dn j c) c))) Q)
        -∗ runs c (recvProd j >>= k) Q) := by
  unfold recvProd
  rw [bind_assoc]
  simp only [Prog.lift, Prog.bind_op, Prog.bind_ret]
  iintro H Hk
  iapply (await_step m K c 3 j O hO (src := slotOf recvM j) (dst := slotOf recvM j) (by rfl) _ Q) $$ H
  iintro ⟨HO, Hz, Hp⟩
  ihave Hs := (show xferPay m c 3 j ⊢ slotHold c recvM j (toSend (part m (dn j c) c)) from BI.Entails.refl _) $$ Hp
  iapply (loadRecv_step c j (toSend (part m (dn j c) c)) k Q) $$ Hs
  iintro Hs
  iapply Hk
  isplitl [HO]; · iexact HO
  isplitl [Hz]; · iexact Hz
  iexact Hs

/-- One of the other devices' rows awaited, worked off, and the product sent to it. -/
theorem peerGroup_step (c : Dev nD) (r j : Fin 3) (hj : dn r c = up j c) (t : Dev nD) (ht : t = up j c)
    (h3 : k0_off3 c (BitVec.ofNat 32 (1 + r.val)) = blkOff (dn r c)) (h4 : k0_off4 c (BitVec.ofNat 32 (1 + r.val)) = blkOff (dn r c))
    (O : CellTallies nD τ sig Unit) (hO : Above 2 (O + tProd c j)) {α : Type} (k : PUnit → P F α) (Q : α → sProp 𝕄) :
    iprop(records m K ∗ levAts L lv ∗ owesAny c (O + tProd c j) ∗ cred (tallyAt (cell c (xfer 1 r)) () N) ∗ atPos ER (cell c (xfer 1 r)) 0 ∅ 0
        ∗ ctxAny c ∗ slotAny c sendM j ∗ slotAny (up j c) recvM j ∗ dutyTok ER (cell c (xfer 2 j)) 0 0 ∗ dutyTok ER (cell (up j c) (xfer 3 j)) 0 0)
      ⊢ iprop(((owesAny c O ∗ semVal (cell c (xfer 1 r)) 0 ∗ rowsAny (F := F) c (dn r c) ∗ ctxAny (F := F) c ∗ cred (tallyAt (cell c (xfer 2 j)) () N))
            -∗ runs c (k ⟨⟩) Q)
        -∗ runs c (peerGroup (wV m c) (woV m c) c r j t >>= k) Q) := by
  have hflat : runs c (peerGroup (wV m c) (woV m c) c r j t >>= k) Q
      = runs c (awaitRows cc0_scratch5 r (k0_off3 c (BitVec.ofNat 32 (1 + r.val))) (k0_off3_inb c r) (k0_off3_wordsbf16 c r) >>= fun _ =>
          groupOf (wV m c) (k0_off4 c (BitVec.ofNat 32 (1 + r.val))) (k0_off4_inb c r) >>= fun y =>
            putSend j (toSend (projOut (woV m c) y)) >>= fun _ => sendProd j t >>= k) Q := by
    unfold peerGroup; simp only [bind_assoc]
  rw [hflat]
  have hv : toSend (projOut (woV m c) (side (head (wV m c) (rowsV m (dn r c))))) = toSend (part m c (up j c)) := by
    rw [hj]; rfl
  iintro ⟨#HR, #Hlev, HO, Hc, Hat, Hctx, Hs, Hd, Ht2, Ht3⟩ Hk
  iapply (awaitArrived_step m K c r (O + tProd c j) hO _ _ _ _ Q) $$ [HO Hc Hat]
  · isplitr; · iexact HR
    isplitr; · iexact Hlev
    isplitl [HO]; · iexact HO
    isplitl [Hc]; · iexact Hc
    iexact Hat
  iintro ⟨HO, Hz, Hrows⟩
  iapply (groupOf_step c (dn r c) fullShare (wV m c) (rowsV m (dn r c)) _ h4 _ _ Q) $$ [Hrows Hctx]
  · isplitl [Hrows]; · iexact Hrows
    iexact Hctx
  iintro ⟨Hrows, Hctx⟩
  rw [hv]
  iapply (putSend_step c j (toSend (part m c (up j c))) _ Q) $$ Hs
  iintro Hs
  iapply (sendProd_step m K c j t ht O k Q) $$ [HO Hs Hd Ht2 Ht3]
  · isplitr; · iexact HR
    isplitl [HO]; · iexact HO
    isplitl [Hs]; · iexact Hs
    isplitl [Hd]; · iexact Hd
    isplitl [Ht2]; · iexact Ht2
    iexact Ht3
  iintro ⟨Hc2, HO⟩
  iapply Hk
  isplitl [HO]; · iexact HO
  isplitl [Hz]; · iexact Hz
  isplitl [Hrows]; · iapply (rowsHold_any c (dn r c) (rowsV m (dn r c))); iexact Hrows
  isplitl [Hctx]; · iexact Hctx
  iexact Hc2

end Cert.KernelIdeal.Work

end
-- ==== Proof.KernelIdeal.Body.lean ====
/- The whole body on one device: from what the launch deals it to the result, every cell closed. -/
module

public import proofs.«01_k».proof.Proof.KernelIdeal.Steps

@[expose] public section

noncomputable section

namespace Cert.KernelIdeal.Work

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Role → ℕ)

/-! ## The device numbers and row offsets the body computes -/

theorem dev1_eq (c : Dev nD) : (⟨k0_dev1 c, k0_dev1_lt c⟩ : Dev nD) = up 0 c := by revert c; decide
theorem dev2_eq (c : Dev nD) : (⟨k0_dev2 c, k0_dev2_lt c⟩ : Dev nD) = up 1 c := by revert c; decide
theorem dev3_eq (c : Dev nD) : (⟨k0_dev3 c, k0_dev3_lt c⟩ : Dev nD) = up 2 c := by revert c; decide
theorem dev4_eq (c : Dev nD) : (⟨k0_dev4 c, k0_dev4_lt c⟩ : Dev nD) = up 0 c := by revert c; decide
theorem dev5_eq (c : Dev nD) : (⟨k0_dev5 c, k0_dev5_lt c⟩ : Dev nD) = up 1 c := by revert c; decide
theorem dev6_eq (c : Dev nD) : (⟨k0_dev6 c, k0_dev6_lt c⟩ : Dev nD) = up 2 c := by revert c; decide
theorem dev7_eq (c : Dev nD) : (⟨k0_dev7 c, k0_dev7_lt c⟩ : Dev nD) = up 2 c := by revert c; decide
theorem dev8_eq (c : Dev nD) : (⟨k0_dev8 c, k0_dev8_lt c⟩ : Dev nD) = up 1 c := by revert c; decide
theorem dev9_eq (c : Dev nD) : (⟨k0_dev9 c, k0_dev9_lt c⟩ : Dev nD) = up 0 c := by revert c; decide

theorem off1_eq (c : Dev nD) : k0_off1 c = blkOff c := k0_off1_eq c
theorem off2_eq (c : Dev nD) : k0_off2 c = blkOff c := k0_off2_eq c
theorem off3_eq (c : Dev nD) (r : Fin 3) : k0_off3 c (BitVec.ofNat 32 (1 + r.val)) = blkOff (dn r c) := by revert c r; decide
theorem off4_eq (c : Dev nD) (r : Fin 3) : k0_off4 c (BitVec.ofNat 32 (1 + r.val)) = blkOff (dn r c) := by revert c r; decide

/-! ## What a device starts from and ends with -/

/-- Its positions in its own cells' rounds, -/
def posns (c : Dev nD) : sProp 𝕄 := bigSep Finset.univ fun r : Role => atPos ER (cell c r) 0 ∅ 0
/-- the duties it pays, index by index, -/
def payAt (c : Dev nD) (i : Fin 3) : sProp 𝕄 :=
  iprop(dutyTok ER (cell (up i c) bar) 0 i ∗ dutyTok ER (cell c (xfer 0 i)) 0 0 ∗ dutyTok ER (cell (up i c) (xfer 1 i)) 0 0
    ∗ dutyTok ER (cell c (xfer 2 i)) 0 0 ∗ dutyTok ER (cell (up i c) (xfer 3 i)) 0 0)
def pays (c : Dev nD) : sProp 𝕄 := bigSep Finset.univ fun i : Fin 3 => payAt c i
/-- and what the others owe it. -/
def creds (c : Dev nD) : sProp 𝕄 :=
  iprop(cred (tallyAt (cell c bar) () 3) ∗ bigSep Finset.univ fun i : Fin 3 =>
    iprop(cred (tallyAt (cell c (xfer 1 i)) () N) ∗ cred (tallyAt (cell c (xfer 3 i)) () N)))

def start (c : Dev nD) : sProp 𝕄 := iprop((∃ K, records m K ∗ posns c ∗ pays c) ∗ creds (F := F) c ∗ levAts L lv)

/-- The four buffers that are no window's. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- Every own cell closed, its counter at zero. -/
def closed (c : Dev nD) : sProp 𝕄 := bigSep Finset.univ fun r : Role => semVal (cell c r) 0

theorem bigSep_roles (Φ : Role → sProp 𝕄) :
    bigSep Finset.univ Φ = iprop(Φ bar ∗ Φ (xfer 0 0) ∗ Φ (xfer 0 1) ∗ Φ (xfer 0 2) ∗ Φ (xfer 1 0) ∗ Φ (xfer 1 1) ∗ Φ (xfer 1 2)
      ∗ Φ (xfer 2 0) ∗ Φ (xfer 2 1) ∗ Φ (xfer 2 2) ∗ Φ (xfer 3 0) ∗ Φ (xfer 3 1) ∗ Φ (xfer 3 2)) :=
  bigSep_univ_eq_bigSepL [bar, xfer 0 0, xfer 0 1, xfer 0 2, xfer 1 0, xfer 1 1, xfer 1 2, xfer 2 0, xfer 2 1, xfer 2 2, xfer 3 0, xfer 3 1, xfer 3 2]
    (by decide) (by decide) Φ

/-- The arguments as staged. -/
def inputs (c : Dev nD) : sProp 𝕄 :=
  iprop(win c cc0_stg0_0 (xArg m c) ∗ win c cc0_stg1_0 (wqArg m c) ∗ win c cc0_stg2_0 (wkArg m c) ∗ win c cc0_stg3_0 (wvArg m c) ∗ win c cc0_stg4_0 (woArg m c))

/-- The device's rows over the ring: its own block, and those it lends the three others. -/
theorem rows_ring (c : Dev nD) :
    (bigSep Finset.univ fun d : Dev nD => rowsAny (F := F) c d)
      = iprop(rowsAny (F := F) c c ∗ rowsAny (F := F) c (up 0 c) ∗ rowsAny (F := F) c (up 1 c) ∗ rowsAny (F := F) c (up 2 c)) :=
  bigSep_ring c _

/-- The whole body, step by step, in program order. -/
theorem sound_flow (c : Dev nD) (f : (cc0_stg5_0 : Ref sig .tc).ty.Contents (Elt F)) (Q : PUnit → sProp 𝕄) :
    iprop(records m K ∗ levAts L lv ∗ posns c ∗ pays c ∗ creds c ∗ owesAny c (owedAll c) ∗ inputs m c ∗ win c cc0_stg5_0 f ∗ scratch c)
      ⊢ iprop(((closed c ∗ owesAny c 0 ∗ inputs m c ∗ win c cc0_stg5_0 (result m c) ∗ scratch c) -∗ Q ⟨⟩) -∗ runs c flow Q) := by
  have hflow : (flow : P F PUnit) = (do
      let c : Dev nD ← Prog.lift .deviceId
      signal ⟨k0_dev1 c, k0_dev1_lt c⟩
      signal ⟨k0_dev2 c, k0_dev2_lt c⟩
      signal ⟨k0_dev3 c, k0_dev3_lt c⟩
      awaitAll
      placeRows (k0_off1 c) (k0_off1_inb c) (k0_off1_packedbf16 c)
      sendRows 0 ⟨k0_dev4 c, k0_dev4_lt c⟩ (k0_off2 c) (k0_off2_inb c) (k0_off2_wordsbf16 c)
      sendRows 1 ⟨k0_dev5 c, k0_dev5_lt c⟩ (k0_off2 c) (k0_off2_inb c) (k0_off2_wordsbf16 c)
      sendRows 2 ⟨k0_dev6 c, k0_dev6_lt c⟩ (k0_off2 c) (k0_off2_inb c) (k0_off2_wordsbf16 c)
      let w ← loadW
      let wo ← loadWo
      let y ← groupOf w (k0_off1 c) (k0_off1_inb c)
      peerGroup w wo c 0 2 ⟨k0_dev7 c, k0_dev7_lt c⟩
      peerGroup w wo c 1 1 ⟨k0_dev8 c, k0_dev8_lt c⟩
      peerGroup w wo c 2 0 ⟨k0_dev9 c, k0_dev9_lt c⟩
      let p2 ← recvProd 2
      let p1 ← recvProd 1
      let p0 ← recvProd 0
      awaitRows cc0_scratch4 0 (k0_off2 c) (k0_off2_inb c) (k0_off2_wordsbf16 c)
      awaitRows cc0_scratch4 1 (k0_off2 c) (k0_off2_inb c) (k0_off2_wordsbf16 c)
      awaitRows cc0_scratch4 2 (k0_off2 c) (k0_off2_inb c) (k0_off2_wordsbf16 c)
      awaitSent 2
      awaitSent 1
      awaitSent 0
      storeOut (addRecv (addRecv (addRecv (projOut wo y) p2) p1) p0) >>= pure) := by
    simp only [bind_pure]; rfl
  rw [hflow]
  simp only [Prog.lift, Prog.bind_op, Prog.bind_ret, wp_deviceId]
  unfold posns pays creds inputs scratch closed payAt
  rw [bigSep_roles, bigSep_roles, Ring.bigSep_fin3, Ring.bigSep_fin3]
  iintro ⟨#HR, #Hlev, ⟨Aat, A00, A01, A02, A10, A11, A12, A20, A21, A22, A30, A31, A32⟩,
    ⟨⟨TB0, T00, T10, T20, T30⟩, ⟨TB1, T01, T11, T21, T31⟩, TB2, T02, T12, T22, T32⟩,
    ⟨CB, ⟨C10, C30⟩, ⟨C11, C31⟩, C12, C32⟩, HO, ⟨Hx, Hwq, Hwk, Hwv, Hwo⟩, Hout, ⟨%fr, Hrows⟩, Hctx, ⟨%fs, Hsend⟩, ⟨%fv, Hrecv⟩⟩ Hk
  ihave Hrows' := ((rows_split c fr).trans (Entails.of_eq (rows_ring c))) $$ Hrows
  icases Hrows' with ⟨R, R0, R1, R2⟩
  ihave Hsend' := ((slots_split c sendM (View.set_whole _) fs).trans (Entails.of_eq (Ring.bigSep_fin3 _))) $$ Hsend
  icases Hsend' with ⟨S0, S1, S2⟩
  ihave Hrecv' := ((slots_split c recvM (View.set_whole _) fv).trans (Entails.of_eq (Ring.bigSep_fin3 _))) $$ Hrecv
  icases Hrecv' with ⟨V0, V1, V2⟩
  -- the three signals
  iapply (signal_step m K c 0 _ (dev1_eq c) (owed7 c) _ Q) $$ [HO TB0 R0 V2]
  · isplitr; · iexact HR
    isplitl [HO]; · iexact HO
    isplitl [TB0]; · iexact TB0
    isplitl [R0]; · iexact R0
    iexact V2
  iintro HO
  iapply (signal_step m K c 1 _ (dev2_eq c) (owed6 c) _ Q) $$ [HO TB1 R1 V1]
  · isplitr; · iexact HR
    isplitl [HO]; · iexact HO
    isplitl [TB1]; · iexact TB1
    isplitl [R1]; · iexact R1
    iexact V1
  iintro HO
  iapply (signal_step m K c 2 _ (dev3_eq c) (owedXfers c) _ Q) $$ [HO TB2 R2 V0]
  · isplitr; · iexact HR
    isplitl [HO]; · iexact HO
    isplitl [TB2]; · iexact TB2
    isplitl [R2]; · iexact R2
    iexact V0
  iintro HO
  -- the barrier
  iapply (awaitAll_step m K c (owedXfers c) (above_xfers c 1 (by decide)) _ Q) $$ [HO CB Aat]
  · isplitr; · iexact HR
    isplitr; · iexact Hlev
    isplitl [HO]; · iexact HO
    isplitl [CB]; · iexact CB
    iexact Aat
  iintro ⟨HO, ZB, ⟨D2, E2⟩, ⟨D1, E1⟩, ⟨D0, E0⟩⟩
  -- the rows placed and sent
  iapply (placeRows_step m c _ (off1_eq c) _ _ _ Q) $$ [Hx R]
  · isplitl [Hx]; · iexact Hx
    iexact R
  iintro ⟨Hx, R⟩
  ihave R' := (rows_lend c c (rowsV m c)) $$ R
  icases R' with ⟨R, L0, L1, L2⟩
  iapply (sendRows_step m K c 0 _ (dev4_eq c) _ (off2_eq c) _ _ (owed4 c) _ Q) $$ [HO L0 D0 T00 T10]
  · isplitr; · iexact HR
    isplitl [HO]; · iexact HO
    isplitl [L0]; · iexact L0
    isplitl [D0]; · iexact D0
    isplitl [T00]; · iexact T00
    iexact T10
  iintro ⟨C00, HO⟩
  iapply (sendRows_step m K c 1 _ (dev5_eq c) _ (off2_eq c) _ _ (owed3 c) _ Q) $$ [HO L1 D1 T01 T11]
  · isplitr; · iexact HR
    isplitl [HO]; · iexact HO
    isplitl [L1]; · iexact L1
    isplitl [D1]; · iexact D1
    isplitl [T01]; · iexact T01
    iexact T11
  iintro ⟨C01, HO⟩
  iapply (sendRows_step m K c 2 _ (dev6_eq c) _ (off2_eq c) _ _ (owedProds c) _ Q) $$ [HO L2 D2 T02 T12]
  · isplitr; · iexact HR
    isplitl [HO]; · iexact HO
    isplitl [L2]; · iexact L2
    isplitl [D2]; · iexact D2
    isplitl [T02]; · iexact T02
    iexact T12
  iintro ⟨C02, HO⟩
  -- the weights, the device's own group
  iapply (loadW_step m c _ Q) $$ [Hwq Hwk Hwv]
  · isplitl [Hwq]; · iexact Hwq
    isplitl [Hwk]; · iexact Hwk
    iexact Hwv
  iintro ⟨Hwq, Hwk, Hwv⟩
  iapply (loadWo_step m c _ Q) $$ Hwo
  iintro Hwo
  iapply (groupOf_step c c kept (wV m c) (rowsV m c) _ (off1_eq c) _ _ Q) $$ [R Hctx]
  · isplitl [R]; · iexact R
    unfold ctxAny; iexact Hctx
  iintro ⟨R, Hctx⟩
  -- the three others' groups
  iapply (peerGroup_step m K c 0 2 (dn_eq 0 c) _ (dev7_eq c) (off3_eq c 0) (off4_eq c 0) (owed1 c) (above_prods c 2 (by decide)) _ Q)
    $$ [HO C10 A10 Hctx S2 E2 T22 T32]
  · isplitr; · iexact HR
    isplitr; · iexact Hlev
    isplitl [HO]; · iexact HO
    isplitl [C10]; · iexact C10
    isplitl [A10]; · iexact A10
    isplitl [Hctx]; · iexact Hctx
    isplitl [S2]; · iexact S2
    isplitl [E2]; · iexact E2
    isplitl [T22]; · iexact T22
    iexact T32
  iintro ⟨HO, Z10, R0, Hctx, C22⟩
  iapply (peerGroup_step m K c 1 1 (dn_eq 1 c) _ (dev8_eq c) (off3_eq c 1) (off4_eq c 1) (owed0 c) (above_owed1 c) _ Q)
    $$ [HO C11 A11 Hctx S1 E1 T21 T31]
  · isplitr; · iexact HR
    isplitr; · iexact Hlev
    isplitl [HO]; · iexact HO
    isplitl [C11]; · iexact C11
    isplitl [A11]; · iexact A11
    isplitl [Hctx]; · iexact Hctx
    isplitl [S1]; · iexact S1
    isplitl [E1]; · iexact E1
    isplitl [T21]; · iexact T21
    iexact T31
  iintro ⟨HO, Z11, R1, Hctx, C21⟩
  iapply (peerGroup_step m K c 2 0 (dn_eq 2 c) _ (dev9_eq c) (off3_eq c 2) (off4_eq c 2) 0 (above_owed0 c) _ Q)
    $$ [HO C12 A12 Hctx S0 E0 T20 T30]
  · isplitr; · iexact HR
    isplitr; · iexact Hlev
    isplitl [HO]; · iexact HO
    isplitl [C12]; · iexact C12
    isplitl [A12]; · iexact A12
    isplitl [Hctx]; · iexact Hctx
    isplitl [S0]; · iexact S0
    isplitl [E0]; · iexact E0
    isplitl [T20]; · iexact T20
    iexact T30
  iintro ⟨HO, Z12, R2, Hctx, C20⟩
  -- the products of the three others
  iapply (recvProd_step m K c 2 0 (above_zero 3) _ Q) $$ [HO C32 A32]
  · isplitr; · iexact HR
    isplitr; · iexact Hlev
    isplitl [HO]; · iexact HO
    isplitl [C32]; · iexact C32
    iexact A32
  iintro ⟨HO, Z32, V2⟩
  iapply (recvProd_step m K c 1 0 (above_zero 3) _ Q) $$ [HO C31 A31]
  · isplitr; · iexact HR
    isplitr; · iexact Hlev
    isplitl [HO]; · iexact HO
    isplitl [C31]; · iexact C31
    iexact A31
  iintro ⟨HO, Z31, V1⟩
  iapply (recvProd_step m K c 0 0 (above_zero 3) _ Q) $$ [HO C30 A30]
  · isplitr; · iexact HR
    isplitr; · iexact Hlev
    isplitl [HO]; · iexact HO
    isplitl [C30]; · iexact C30
    iexact A30
  iintro ⟨HO, Z30, V0⟩
  -- the device's own transfers are done
  iapply (awaitRowsSent_step m K c 0 0 (above_zero 0) _ _ _ _ Q) $$ [HO C00 A00]
  · isplitr; · iexact HR
    isplitr; · iexact Hlev
    isplitl [HO]; · iexact HO
    isplitl [C00]; · iexact C00
    iexact A00
  iintro ⟨HO, Z00, L0⟩
  iapply (awaitRowsSent_step m K c 1 0 (above_zero 0) _ _ _ _ Q) $$ [HO C01 A01]
  · isplitr; · iexact HR
    isplitr; · iexact Hlev
    isplitl [HO]; · iexact HO
    isplitl [C01]; · iexact C01
    iexact A01
  iintro ⟨HO, Z01, L1⟩
  iapply (awaitRowsSent_step m K c 2 0 (above_zero 0) _ _ _ _ Q) $$ [HO C02 A02]
  · isplitr; · iexact HR
    isplitr; · iexact Hlev
    isplitl [HO]; · iexact HO
    isplitl [C02]; · iexact C02
    iexact A02
  iintro ⟨HO, Z02, L2⟩
  iapply (awaitSent_step m K c 2 0 (above_zero 0) _ Q) $$ [HO C22 A22]
  · isplitr; · iexact HR
    isplitr; · iexact Hlev
    isplitl [HO]; · iexact HO
    isplitl [C22]; · iexact C22
    iexact A22
  iintro ⟨HO, Z22, S2⟩
  iapply (awaitSent_step m K c 1 0 (above_zero 0) _ Q) $$ [HO C21 A21]
  · isplitr; · iexact HR
    isplitr; · iexact Hlev
    isplitl [HO]; · iexact HO
    isplitl [C21]; · iexact C21
    iexact A21
  iintro ⟨HO, Z21, S1⟩
  iapply (awaitSent_step m K c 0 0 (above_zero 0) _ Q) $$ [HO C20 A20]
  · isplitr; · iexact HR
    isplitr; · iexact Hlev
    isplitl [HO]; · iexact HO
    isplitl [C20]; · iexact C20
    iexact A20
  iintro ⟨HO, Z20, S0⟩
  -- the result
  iapply (storeOut_step c _ f _ Q) $$ Hout
  iintro Hout
  simp only [Prog.pure_eq_ret]
  unfold runs
  rw [wp_ret]; imodintro
  iapply Hk
  isplitl [ZB Z00 Z01 Z02 Z10 Z11 Z12 Z20 Z21 Z22 Z30 Z31 Z32]
  · isplitl [ZB]; · iexact ZB
    isplitl [Z00]; · iexact Z00
    isplitl [Z01]; · iexact Z01
    isplitl [Z02]; · iexact Z02
    isplitl [Z10]; · iexact Z10
    isplitl [Z11]; · iexact Z11
    isplitl [Z12]; · iexact Z12
    isplitl [Z20]; · iexact Z20
    isplitl [Z21]; · iexact Z21
    isplitl [Z22]; · iexact Z22
    isplitl [Z30]; · iexact Z30
    isplitl [Z31]; · iexact Z31
    iexact Z32
  isplitl [HO]; · iexact HO
  isplitl [Hx Hwq Hwk Hwv Hwo]
  · isplitl [Hx]; · iexact Hx
    isplitl [Hwq]; · iexact Hwq
    isplitl [Hwk]; · iexact Hwk
    isplitl [Hwv]; · iexact Hwv
    iexact Hwo
  isplitl [Hout]; · iexact Hout
  isplitl [R L0 L1 L2 R0 R1 R2]
  · iapply (rows_join c fr)
    rw [rows_ring]
    isplitl [R L0 L1 L2]
    · iapply (rowsHold_any c c (rowsV m c))
      iapply (rows_unlend c c (rowsV m c))
      isplitl [R]; · iexact R
      isplitl [L0]; · iexact L0
      isplitl [L1]; · iexact L1
      iexact L2
    rw [dn_eq, dn_eq, dn_eq]
    isplitl [R2]; · iexact R2
    isplitl [R1]; · iexact R1
    iexact R0
  isplitl [Hctx]; · unfold ctxAny; iexact Hctx
  isplitl [S0 S1 S2]
  · iapply (slots_join c sendM (View.set_whole _) fs)
    rw [Ring.bigSep_fin3]
    isplitl [S0]; · iexact S0
    isplitl [S1]; · iexact S1
    iexact S2
  iapply (slots_join c recvM (View.set_whole _) fv)
  rw [Ring.bigSep_fin3]
  isplitl [V0]; · iapply (slotHold_any c recvM 0); iexact V0
  isplitl [V1]; · iapply (slotHold_any c recvM 1); iexact V1
  iapply (slotHold_any c recvM 2); iexact V2

end Cert.KernelIdeal.Work

end
-- ==== Proof.KernelIdeal.Launch.lean ====
/- The launch: the body on every device at once, from any memory with every counter at zero. -/
module

public import proofs.«01_k».proof.Proof.KernelIdeal.Body
public import proofs.«01_k».proof.Proof.Gen.KernelIdeal.Launch
public import Idealize.ShloMosaic.Lib.Pipeline.Launch
public import Idealize.ShloMosaic.Lib.Pipeline.CollectiveSegs
public import Idealize.ShloMosaic.Lib.Pipeline.Value

@[expose] public section

noncomputable section

namespace Cert.KernelIdeal.Work

open Cert.KernelIdeal Cert.KernelIdeal.Gen
open Idealize.ShloMosaic
open Idealize.ShloMosaic.TcCoe
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The one grid point -/

def t₀ : Fin cfg0.N := t0_0
theorem fin_N (t : Fin cfg0.N) : t = t₀ := fin_N0 t

def before (c : Dev nD) : sProp 𝕄 := iprop(start m c ∗ scratch c)
def after (c : Dev nD) : sProp 𝕄 := iprop(closed (F := F) c ∗ scratch c)

/-- What the launch knows of a device: its arrays, what its body leaves in each window, what it holds and owes
    before and after. -/
def dats (_ : Fin 1) (c : Dev nD) : Dat τ (Elt F) Unit ℕ UU ℕ cfg0 c where
  A w := m ((cfg0.win w).arr.view.loc (c : Thread nD τ))
  after w _ := match w with
    | ⟨0, _⟩ => xArg m c
    | ⟨1, _⟩ => wqArg m c
    | ⟨2, _⟩ => wkArg m c
    | ⟨3, _⟩ => wvArg m c
    | ⟨4, _⟩ => woArg m c
    | ⟨5, _⟩ => result m c
    | ⟨_ + 6, h⟩ => absurd h (Nat.not_lt.2 (Nat.le_add_left _ _))
  Φ t := match t with
    | ⟨0, _⟩ => before m c
    | ⟨_ + 1, _⟩ => after c
  q _ := fullShare
  owed t := match t with
    | ⟨0, _⟩ => owedAll c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_win (c : Dev nD) (b : Ref sig .tc) (X : b.ty.Contents (Elt F)) : (stg c b X : sProp 𝕄) ⊢ win c b X := by
  iintro ⟨%f, %hf, H⟩
  subst hf
  iexact H
theorem win_stg (c : Dev nD) (b : Ref sig .tc) (X : b.ty.Contents (Elt F)) : (win c b X : sProp 𝕄) ⊢ stg c b X := by
  iintro H
  iexists X
  isplitr; · (ipureintro; rfl)
  iexact H

theorem fetched0 (c : Dev nD) (d) : (dats m 0 c).before (0 : Fin 6) t₀ d = xArg m c := by unfold Dat.before; rw [if_pos (by rfl)]; rfl
theorem fetched1 (c : Dev nD) (d) : (dats m 0 c).before (1 : Fin 6) t₀ d = wqArg m c := by unfold Dat.before; rw [if_pos (by rfl)]; rfl
theorem fetched2 (c : Dev nD) (d) : (dats m 0 c).before (2 : Fin 6) t₀ d = wkArg m c := by unfold Dat.before; rw [if_pos (by rfl)]; rfl
theorem fetched3 (c : Dev nD) (d) : (dats m 0 c).before (3 : Fin 6) t₀ d = wvArg m c := by unfold Dat.before; rw [if_pos (by rfl)]; rfl
theorem fetched4 (c : Dev nD) (d) : (dats m 0 c).before (4 : Fin 6) t₀ d = woArg m c := by unfold Dat.before; rw [if_pos (by rfl)]; rfl

def bodyPre (c : Dev nD) : sProp 𝕄 :=
  iprop(before m c ∗ (dats m 0 c).owesAt () t₀.castSucc
    ∗ (∃ d, stg c cc0_stg0_0 ((dats m 0 c).before (0 : Fin 6) t₀ d))
    ∗ (∃ d, stg c cc0_stg1_0 ((dats m 0 c).before (1 : Fin 6) t₀ d))
    ∗ (∃ d, stg c cc0_stg2_0 ((dats m 0 c).before (2 : Fin 6) t₀ d))
    ∗ (∃ d, stg c cc0_stg3_0 ((dats m 0 c).before (3 : Fin 6) t₀ d))
    ∗ (∃ d, stg c cc0_stg4_0 ((dats m 0 c).before (4 : Fin 6) t₀ d))
    ∗ (∃ d, stg c cc0_stg5_0 ((dats m 0 c).before (5 : Fin 6) t₀ d)))
def bodyPost (c : Dev nD) : sProp 𝕄 :=
  iprop(after c ∗ (dats m 0 c).owesAt () t₀.succ
    ∗ stg c cc0_stg0_0 (xArg m c) ∗ stg c cc0_stg1_0 (wqArg m c) ∗ stg c cc0_stg2_0 (wkArg m c) ∗ stg c cc0_stg3_0 (wvArg m c)
    ∗ stg c cc0_stg4_0 (woArg m c) ∗ stg c cc0_stg5_0 (result m c))

theorem sound_body (c : Dev nD) : bodyPre m c ⊢ runs c flow (fun _ => bodyPost m c) := by
  unfold bodyPre before start Dat.owesAt Pipeline.owesWithin
  iintro ⟨⟨⟨⟨%K, HR, Hat, Hpay⟩, Hcr, Hlev⟩, Hscr⟩, ⟨%W, %hW, HO⟩, ⟨%d0, H0⟩, ⟨%d1, H1⟩, ⟨%d2, H2⟩, ⟨%d3, H3⟩, ⟨%d4, H4⟩, ⟨%d5, H5⟩⟩
  rw [fetched0, fetched1, fetched2, fetched3, fetched4]
  rw [show (dats m 0 c).owed t₀.castSucc = owedAll c from rfl]
  ihave H0 := (stg_win c cc0_stg0_0 (xArg m c)) $$ H0
  ihave H1 := (stg_win c cc0_stg1_0 (wqArg m c)) $$ H1
  ihave H2 := (stg_win c cc0_stg2_0 (wkArg m c)) $$ H2
  ihave H3 := (stg_win c cc0_stg3_0 (wvArg m c)) $$ H3
  ihave H4 := (stg_win c cc0_stg4_0 (woArg m c)) $$ H4
  ihave H5 := (stg_win c cc0_stg5_0 _) $$ H5
  iapply (sound_flow m K c _ fun _ => bodyPost m c) $$ [HR Hat Hpay Hcr Hlev Hscr HO H0 H1 H2 H3 H4 H5]
  · isplitl [HR]; · iexact HR
    isplitl [Hlev]; · iexact Hlev
    isplitl [Hat]; · iexact Hat
    isplitl [Hpay]; · iexact Hpay
    isplitl [Hcr]; · iexact Hcr
    isplitl [HO]; · unfold owesAny; iexists W; iexact HO
    isplitl [H0 H1 H2 H3 H4]
    · unfold inputs
      isplitl [H0]; · iexact H0
      isplitl [H1]; · iexact H1
      isplitl [H2]; · iexact H2
      isplitl [H3]; · iexact H3
      iexact H4
    isplitl [H5]; · iexact H5
    iexact Hscr
  unfold owesAny inputs bodyPost after Dat.owesAt Pipeline.owesWithin
  iintro ⟨Hcl, ⟨%W', HO⟩, ⟨H0, H1, H2, H3, H4⟩, H5, Hscr⟩
  rw [show (dats m 0 c).owed t₀.succ = 0 from rfl]
  isplitl [Hcl Hscr]
  · isplitl [Hcl] <;> iassumption
  isplitl [HO]
  · iexists W'
    isplitr; · ipureintro; exact fun _ _ => Or.inl trivial
    iexact HO
  isplitl [H0]; · iapply (win_stg c cc0_stg0_0 (xArg m c)); iexact H0
  isplitl [H1]; · iapply (win_stg c cc0_stg1_0 (wqArg m c)); iexact H1
  isplitl [H2]; · iapply (win_stg c cc0_stg2_0 (wkArg m c)); iexact H2
  isplitl [H3]; · iapply (win_stg c cc0_stg3_0 (wvArg m c)); iexact H3
  isplitl [H4]; · iapply (win_stg c cc0_stg4_0 (woArg m c)); iexact H4
  iapply (win_stg c cc0_stg5_0 (result m c)); iexact H5

set_option maxRecDepth 4000 in
theorem body_obligation (c : Dev nD) : BodyObligation (dats (F := F) m 0 c) (defs₀ (F := F)) 𝒱₀ () Set.univ := fun t => by
  rw [fin_N t]
  rw [bigSep_W0, bigSep_W0]
  simp only [owns_whole_eq]
  have h := sound_body (F := F) m c
  rw [← body_eq_flow] at h
  exact h

/-! ## The cells dealt -/

theorem ownSemFacts : Pipeline.OwnSemFacts cfg0.spec osem := by decide

theorem share_eq (c : Dev nD) (w : Fin cfg0.W) : (dats m 0 c).share w = fullShare := by unfold Dat.share; split <;> rfl

def allCells : Finset (GSem nD τ sig) := Finset.univ.map ⟨_, cell_injective⟩

/-- The duties of a device's own cells, index by index: one of its barrier, one of each of its transfers. -/
def tokRole (i : Fin 3) (k : Fin 5) : Role × Fin 3 := match k with
  | 0 => (bar, i) | 1 => (xfer 0 i, 0) | 2 => (xfer 1 i, 0) | 3 => (xfer 2 i, 0) | 4 => (xfer 3 i, 0)
theorem tokRole_injective : ∀ p q : Fin 3 × Fin 5, tokRole p.1 p.2 = tokRole q.1 q.2 → p = q := by decide
def tokOf (p : Dev nD × Fin 3 × Fin 5) : GSem nD τ sig × ℕ × Fin 3 := (cell p.1 (tokRole p.2.1 p.2.2).1, 0, (tokRole p.2.1 p.2.2).2)
theorem tokOf_injective : Function.Injective tokOf := by
  rintro ⟨c, p⟩ ⟨c', q⟩ h
  have h1 := cell_injective (a₁ := (c, (tokRole p.1 p.2).1)) (a₂ := (c', (tokRole q.1 q.2).1)) (congrArg Prod.fst h)
  have h2 : (tokRole p.1 p.2).2 = (tokRole q.1 q.2).2 := congrArg (fun x => x.2.2) h
  have h3 : p = q := tokRole_injective p q (Prod.ext (congrArg Prod.snd h1) h2)
  have h4 : c = c' := congrArg Prod.fst h1
  rw [h3, h4]
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The duties of index `i` of `c`'s own cells. -/
def toksAt (c : Dev nD) (i : Fin 3) : sProp 𝕄 :=
  iprop(dutyTok ER (cell c bar) 0 i ∗ dutyTok ER (cell c (xfer 0 i)) 0 0 ∗ dutyTok ER (cell c (xfer 1 i)) 0 0
    ∗ dutyTok ER (cell c (xfer 2 i)) 0 0 ∗ dutyTok ER (cell c (xfer 3 i)) 0 0)
def toks (c : Dev nD) : sProp 𝕄 := bigSep Finset.univ fun i : Fin 3 => toksAt c i

def G (c : Dev nD) : sProp 𝕄 :=
  iprop((bigSep Finset.univ fun r : Role => roundState ER (plan m) (cell c r) 0)
    ∗ (bigSep Finset.univ fun r : Role => atPos ER (cell c r) 0 ∅ 0) ∗ (bigSep Finset.univ fun r : Role => reached ER (cell c r) 0) ∗ toks c)
def G' (c : Dev nD) : sProp 𝕄 := iprop(∃ K, records m K ∗ posns c ∗ pays c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem cells_bigSep (Φ : GSem nD τ sig → sProp 𝕄) :
    bigSep allCells Φ = bigSep Finset.univ fun c : Dev nD => bigSep Finset.univ fun r : Role => Φ (cell c r) := by
  unfold allCells; rw [bigSep_map, bigSep_univ_prod]; rfl
theorem toks_bigSep : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  unfold toks
  rw [bigSep_univ_prod]
  refine bigSep_congr fun i _ => ?_
  rw [bigSep_fin5]; rfl

theorem fund : BI.own (ER (initOf allCells allToks)) ⊢ (|==> bigSep Finset.univ (G m) : sProp 𝕄) := by
  iintro HX
  imod (Rounds.fund ER (plan m) allCells allToks) $$ HX with ⟨Hst, Hr, Hat, Htok⟩
  imodintro
  ihave Hst := (Entails.of_eq (cells_bigSep fun g => roundState ER (plan m) g 0)) $$ Hst
  ihave Hat := (Entails.of_eq (cells_bigSep (F := F) fun g => atPos ER g 0 ∅ 0)) $$ Hat
  ihave Hr := (Entails.of_eq (cells_bigSep (F := F) fun g => reached ER g 0)) $$ Hr
  ihave Htok := (Entails.of_eq (toks_bigSep (F := F))) $$ Htok
  unfold G; simp only [bigSep_sep']
  isplitl [Hst]; · iexact Hst
  isplitl [Hat]; · iexact Hat
  isplitl [Hr]; · iexact Hr
  iexact Htok

theorem unscopedSems0_eq (c : Dev nD) : (unscopedSems0 c : sProp 𝕄) = semVal (cell c bar) 0 := by
  unfold unscopedSems0; rw [bigSep_eq_bigSepL_of_eq [csem bar] (by decide) (by decide)]; rfl

/-- A device's thirteen counters: the barrier's, the launch's only unscoped one, and the kernel's own twelve. -/
theorem sems0_eq (c : Dev nD) :
    iprop((unscopedSems0 c : sProp 𝕄) ∗ Pipeline.ownSems0 (Ix := Unit) (Name := ℕ) (U := UU) (Lvl := ℕ) (Val := Elt F) (τ := τ) osem c) = closed c := by
  rw [unscopedSems0_eq]
  unfold closed Pipeline.ownSems0
  rw [BI.bigSep_univ_sum, BI.bigSep_univ_of_subsingleton ()]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun r : Role => iprop(∃ κ : ℕ, cellInv ER (plan m) κ (cell c r)))
          ∗ (bigSep Finset.univ fun r : Role => atPos ER (cell c r) 0 ∅ 0) ∗ (bigSep Finset.univ fun r : Role => reached ER (cell c r) 0) ∗ toks c) := by
  have halloc : iprop((closed c : sProp 𝕄) ∗ bigSep Finset.univ fun r : Role => roundState ER (plan m) (cell c r) 0)
      ⊢ |={Set.univ}=> bigSep Finset.univ fun r : Role => iprop(∃ κ : ℕ, cellInv ER (plan m) κ (cell c r)) := by
    unfold closed
    rw [← bigSep_sep']
    exact (bigSep_mono fun r _ => (Rounds.body_intro ER (plan m) (cell c r)).trans inv_alloc).trans (bigSep_fupd _ _)
  unfold G
  iintro ⟨Hos, Hus, Hst, Hrest⟩
  ihave Hv := (Entails.of_eq (sems0_eq (F := F) c)) $$ [Hos Hus]
  · isplitl [Hus] <;> iassumption
  imod halloc $$ [Hv Hst] with Hinv
  · isplitl [Hv] <;> iassumption
  imodintro
  isplitl [Hinv]; · iexact Hinv
  iexact Hrest

/-- Index by index, each device's duties go to the device that pays them. -/
theorem toksAt_around (i : Fin 3) : (bigSep Finset.univ fun c : Dev nD => (toksAt c i : sProp 𝕄)) ⊢ bigSep Finset.univ fun c : Dev nD => payAt c i := by
  unfold toksAt payAt
  rw [bigSep_sep', bigSep_sep', bigSep_sep', bigSep_sep', bigSep_sep', bigSep_sep', bigSep_sep', bigSep_sep',
    bigSep_univ_equiv (around i) (fun c : Dev nD => (dutyTok ER (cell c bar) 0 i : sProp 𝕄)),
    bigSep_univ_equiv (around i) (fun c : Dev nD => (dutyTok ER (cell c (xfer 1 i)) 0 0 : sProp 𝕄)),
    bigSep_univ_equiv (around i) (fun c : Dev nD => (dutyTok ER (cell c (xfer 3 i)) 0 0 : sProp 𝕄))]
  exact BI.Entails.refl _
theorem toks_around : (bigSep Finset.univ fun c : Dev nD => (toks c : sProp 𝕄)) ⊢ bigSep Finset.univ fun c : Dev nD => pays c := by
  unfold toks pays
  simp only [Ring.bigSep_fin3, bigSep_sep']
  exact BI.sep_mono (toksAt_around 0) (BI.sep_mono (toksAt_around 1) (toksAt_around 2))

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Role → ℕ) (c : Dev nD) : iprop(records m K ∗ posns c ∗ pays c) ⊢ G' m c := by
  unfold G'
  iintro H; iexists K; iexact H

theorem regroup :
    (bigSep Finset.univ fun c : Dev nD => iprop((bigSep Finset.univ fun r : Role => iprop(∃ κ : ℕ, cellInv ER (plan m) κ (cell c r)))
          ∗ (bigSep Finset.univ fun r : Role => atPos ER (cell c r) 0 ∅ 0) ∗ (bigSep Finset.univ fun r : Role => reached ER (cell c r) 0) ∗ toks c) : sProp 𝕄)
      ⊢ bigSep Finset.univ (G' m) := by
  rw [bigSep_sep', bigSep_sep', bigSep_sep', ← bigSep_univ_prod (fun p : Dev nD × Role => iprop(∃ κ : ℕ, cellInv ER (plan m) κ (cell p.1 p.2))),
    ← bigSep_univ_prod (fun p : Dev nD × Role => (reached ER (cell p.1 p.2) 0 : sProp 𝕄))]
  iintro ⟨HI, Hat, #HR, Htok⟩
  ihave HK := (BI.bigSep_exists_pi Finset.univ (fun (p : Dev nD × Role) (κ : ℕ) => (cellInv ER (plan m) κ (cell p.1 p.2) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  rw [bigSep_sep']
  isplitl [Hat]; · unfold posns; iexact Hat
  iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the others owe -/

/-- What is paid upward at one index reaches each device's cell from exactly one device. -/
theorem sum_up (i : Fin 3) (r : Role) (n : ℕ) (c : Dev nD) (r' : Role) :
    ∑ d : Dev nD, (tallyAt (cell (up i d) r) () n : CellTallies nD τ sig Unit) (cell c r') () = if r = r' then n else 0 := by
  have h : ∀ d : Dev nD, (tallyAt (cell (up i d) r) () n : CellTallies nD τ sig Unit) (cell c r') () = if d = dn i c then (if r = r' then n else 0) else 0 := fun d => by
    rw [tallyAt_apply]
    by_cases hd : d = dn i c
    · subst hd
      rw [up_dn, if_pos rfl]
      by_cases hr : r = r'
      · subst hr; rw [if_pos ⟨rfl, rfl⟩, if_pos rfl]
      · rw [if_neg (fun e => hr (congrArg Prod.snd (cell_injective (a₁ := (c, r')) (a₂ := (c, r)) e.1)).symm), if_neg hr]
    · rw [if_neg hd, if_neg (fun e => hd _)]
      rintro e
      have := congrArg Prod.fst (cell_injective (a₁ := (c, r')) (a₂ := (up i d, r)) e.1)
      rw [show c = up i d from this, dn_up]
  rw [Finset.sum_congr rfl fun d _ => h d, Finset.sum_ite_eq' Finset.univ (dn i c) fun _ => _, if_pos (Finset.mem_univ _)]

def due (r : Role) : ℕ := match r with
  | .inl _ => 3
  | .inr (1, _) => N
  | .inr (3, _) => N
  | _ => 0

theorem sum_owed (c : Dev nD) (r : Role) : ∑ d : Dev nD, owedAll d (cell c r) () = due r := by
  simp only [owedAll, owed7, owed6, owedXfers, owed4, owed3, owedProds, owed1, owed0, Pi.add_apply, Finsupp.add_apply, Finset.sum_add_distrib, sum_up]
  rcases r with u | ⟨t, i⟩
  · simp [due]
  · fin_cases t <;> fin_cases i <;> simp [due]

theorem launch_cell (c : Dev nD) (r : Role) :
    tallyOn (cell c r) (launchCredit (Pipeline.owing owedAll) 0 (cell c r)) = (tallyAt (cell c r) () (due r) : CellTallies nD τ sig Unit) := by
  unfold tallyAt; refine congrArg _ (Finsupp.ext fun u => ?_); cases u
  rw [Pipeline.launchCredit_owing, Finsupp.single_eq_same, sum_owed]

theorem launch_creds (c : Dev nD) : (Pipeline.launchCred owedAll c : sProp 𝕄) ⊢ creds c := by
  have h : (Pipeline.launchCred owedAll c : sProp 𝕄) ⊢ bigSep Finset.univ fun r : Role => cred (tallyAt (cell c r) () (due r)) := by
    unfold Pipeline.launchCred
    refine (BI.bigSep_subset (Finset.subset_univ (Finset.univ.map ⟨csem, csem_injective⟩))).trans ?_
    rw [bigSep_map]
    exact Entails.of_eq (bigSep_congr fun r _ => congrArg _ (launch_cell c r))
  refine h.trans ?_
  rw [bigSep_roles]
  unfold creds
  rw [Ring.bigSep_fin3]
  iintro ⟨HB, -, -, -, H10, H11, H12, -, -, -, H30, H31, H32⟩
  isplitl [HB]; · iexact HB
  isplitl [H10 H30]
  · isplitl [H10]; · iexact H10
    iexact H30
  isplitl [H11 H31]
  · isplitl [H11]; · iexact H11
    iexact H31
  isplitl [H12]; · iexact H12
  iexact H32

/-! ## The theorem's side conditions -/

theorem start_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ G' m c)
      ⊢ |={Set.univ}=> iprop(start m c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before scratch
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = after c from rfl, scopedRest0_eq]
  unfold after
  rw [← sems0_eq]
  unfold scratch
  iintro ⟨⟨Hu, Ho⟩, Hr⟩
  isplitl [Hu]; · iexact Hu
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t =>
    mayWait c _ _ (by
      rw [show levelOf (roleOf _) = 0 from by revert w s; decide]
      rcases t with ⟨_ | _, ht⟩
      · exact above_all c
      · exact above_zero 0)

/-! ## The run -/

def finalA (c : Dev nD) (w : Fin cfg0.W) : Buf (Elt F) ((cfg0.win w).arr.view.loc (c : Thread nD τ)) := (dats m 0 c).arrAt w cfg0.N

set_option maxRecDepth 8000 in
/-- Every weakly fair execution from any memory, every counter at zero, ends; each array then holds its final contents and
    every counter is at zero. -/
theorem run_main : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := owedAll) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they began. -/
theorem final_in (c : Dev nD) (w : Fin cfg0.W) (h : (cfg0.win w).isOut = false) : finalA m c w = m ((cfg0.win w).arr.view.loc (c : Thread nD τ)) :=
  (dats (F := F) m 0 c).arrAt_in w h _

end Cert.KernelIdeal.Work

end
-- ==== Proof.KernelIdeal.Run.lean ====
/- What a run leaves in memory: the arguments as they were, device `c`'s result, every counter at zero. -/
module

public import proofs.«01_k».proof.Proof.KernelIdeal.Launch

@[expose] public section

noncomputable section

namespace Cert.KernelIdeal.Work

open Cert.KernelIdeal Cert.KernelIdeal.Gen
open Idealize.ShloMosaic
open Idealize.ShloMosaic.TcCoe
open Idealize.ShloMosaic.Pipeline
open Idealize.SL Idealize.SL.Sem

variable {F : FTy → Type} [FloatOps F] [Named F]

variable (m : (ℓ : Loc nD τ sig) → Buf (Elt F) ℓ) (ρ : Dev nD → PrngReg)

/-- A rectangle of a shape's own sizes at offsets that are all zero picks every element where it is. -/
theorem emb_at_zero {s : Shape} (off : Fin s.rank → ℕ) (h : off = fun _ => 0) (inb : ∀ a, off a + s.size a ≤ s.size a) (y : s.Idx) :
    (Rect.unit (s := s) off s.size inb).emb y = y := by
  subst h
  funext a
  refine Fin.ext ?_
  rw [Rect.emb_apply]
  show 0 + 1 * (y a : ℕ) = y a
  omega

theorem read_at_zero (b : Ref sig .tc) (off : Fin b.ty.shape.rank → ℕ) (h : off = fun _ => 0)
    (inb : ∀ a, off a + b.ty.shape.size a ≤ b.ty.shape.size a) (f : b.ty.Contents (Elt F)) :
    ((View.whole b).slice (Rect.unit (s := b.ty.shape) off b.ty.shape.size inb)).read (Elt F) f = f := by
  funext y
  show f ((Rect.unit (s := b.ty.shape) off b.ty.shape.size inb).emb y) = f y
  rw [emb_at_zero off h inb y]

theorem xArg_eq (c : Dev nD) : xArg m c = m ((c : Thread nD τ).loc main_arg0) := read_at_zero main_arg0 _ (by decide) _ _
theorem wqArg_eq (c : Dev nD) : wqArg m c = m ((c : Thread nD τ).loc main_arg1) := read_at_zero main_arg1 _ (by decide) _ _
theorem wkArg_eq (c : Dev nD) : wkArg m c = m ((c : Thread nD τ).loc main_arg2) := read_at_zero main_arg2 _ (by decide) _ _
theorem wvArg_eq (c : Dev nD) : wvArg m c = m ((c : Thread nD τ).loc main_arg3) := read_at_zero main_arg3 _ (by decide) _ _
theorem woArg_eq (c : Dev nD) : woArg m c = m ((c : Thread nD τ).loc main_arg4) := read_at_zero main_arg4 _ (by decide) _ _

theorem final_out (c : Dev nD) : finalA m c (5 : Fin 6) = result m c := by
  refine (dats (F := F) m 0 c).arrAt_eq_of_cover (5 : Fin 6) (result m c) (fun t _ => ?_) fun i => ⟨t₀, rfl, ?_⟩
  · rw [fin_N t]
    exact (read_at_zero main_v1 _ (by decide) _ (result m c)).symm
  · have h := (((cfg0.win (5 : Fin 6)).blk t₀).view).emb_mem_set i
    rwa [show (((cfg0.win (5 : Fin 6)).blk t₀).view).emb i = i from emb_at_zero (s := S2x128x512) _ (by decide) _ i] at h

/-- Every run ends with the arguments unchanged, each device's result in its array, and every counter at zero. -/
theorem run_kernel : θ_run defs (onTc (τ := τ) (main (F := F))) ⟨m, fun _ => 0, ρ⟩
    (fun r => (∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c =>
    ⟨(h.1 c (5 : Fin 6)).trans (final_out m c), (h.1 c (0 : Fin 6)).trans (final_in m c 0 rfl), (h.1 c (1 : Fin 6)).trans (final_in m c 1 rfl),
      (h.1 c (2 : Fin 6)).trans (final_in m c 2 rfl), (h.1 c (3 : Fin 6)).trans (final_in m c 3 rfl), (h.1 c (4 : Fin 6)).trans (final_in m c 4 rfl)⟩, h.2⟩) (run_main m ρ)

end Cert.KernelIdeal.Work

end
-- ==== Proof.Maths.Finite.lean ====
/- What the precondition says: every entry of the rows and of the query and key weights is a real number. -/
module

public import proofs.«01_k».proof.Defs
public import Idealize.ShloMosaic.Lib.Pointwise
public import Idealize.ShloMosaic.Lib.ReduceAll

@[expose] public section

noncomputable section

namespace Cert.Finite

open Idealize.ShloMosaic

/-- The side conditions of the precondition, over one device's arrays and over the whole ones. -/
theorem facts_device : Cert.Pre_scores_finite_KernelIdeal.Facts := ⟨by decide, by decide, by decide, by decide, by decide⟩
theorem facts_whole : Cert.Pre_scores_finite_ReferenceIdeal.Facts := ⟨by decide, by decide, by decide, by decide, by decide⟩

/-- What is below infinity in absolute value is a real number. -/
theorem real_of_abs (x : EReal) (h : FloatOps.cmpf (F := Ideal) (φ := .bf16) .olt (FloatOps.hostAbsf (F := Ideal) (φ := .bf16) x) (Ideal.ofBits .bf16 0x7F80#16) = 1#1) :
    x = (x.toReal : EReal) := by
  have top : Ideal.ofBits .bf16 0x7F80#16 = ⊤ := by simp [Ideal.ofBits, Ideal.ieee]
  rw [top] at h
  have h' : max x (-x) < ⊤ := by
    by_contra n
    have e : FloatOps.cmpf (F := Ideal) (φ := .bf16) .olt (FloatOps.hostAbsf (F := Ideal) (φ := .bf16) x) ⊤ = BitVec.ofBool (decide (max x (-x) < ⊤)) := rfl
    rw [e, decide_eq_false n] at h
    exact absurd h (by decide)
  obtain ⟨h1, h2⟩ := max_lt_iff.1 h'
  refine (EReal.coe_toReal h1.ne ?_).symm
  rintro rfl
  exact absurd h2 (by simp)

variable [Cert.Pre_scores_finite_KernelIdeal.Facts]

instance : Subsingleton Cert.Pre_scores_finite_KernelIdeal.S_.Idx := ⟨fun a b => funext fun i => i.elim0⟩

theorem finite_of_pre (x : FVec Ideal ⟨3, ![2, 128, 512]⟩ .bf16) (wq wk wv : FVec Ideal ⟨2, ![512, 256]⟩ .bf16) (wo : FVec Ideal ⟨2, ![256, 512]⟩ .bf16)
    (h : Cert.Pre_scores_finite_KernelIdeal.fn (F := Ideal) x wq wk wv wo = fun _ => 1#1) :
    (∀ i, x i = ((x i).toReal : EReal)) ∧ (∀ i, wq i = ((wq i).toReal : EReal)) ∧ (∀ i, wk i = ((wk i).toReal : EReal)) := by
  have h0 := congrFun h ix0
  obtain ⟨h1, hk⟩ := IntOp.andi_eq_one.1 h0
  obtain ⟨hx, hq⟩ := IntOp.andi_eq_one.1 h1
  exact ⟨fun i => real_of_abs _ (Host.reduce_andi_all _ _ _ _ _ hx i), fun i => real_of_abs _ (Host.reduce_andi_all _ _ _ _ _ hq i),
    fun i => real_of_abs _ (Host.reduce_andi_all _ _ _ _ _ hk i)⟩

end Cert.Finite
end
-- ==== Proof.Maths.Spec.lean ====
/- Attention with rotary positions over eight sequences of 128 rows and sixteen heads of 64 columns, as a
   function of the whole arrays. The scores are real numbers; values and outputs are extended reals. -/
module

public import Idealize.ShloMosaic.Lib.Pointwise

@[expose] public section

noncomputable section

namespace Cert.Attention

open Idealize.ShloMosaic

/-- The angle of column `e` at position `p`. -/
def turnAngle (p e : Nat) : ℝ := p * Real.exp ((e % 64 / 2 * 2 : Nat) * (-(Real.log 10000) * 64⁻¹))

/-- The other column of a pair. -/
def mate (e : Fin 1024) : Fin 1024 := ⟨if e.val % 2 = 0 then e.val + 1 else e.val - 1, by have := e.isLt; split <;> omega⟩

/-- A row at position `p`, each pair of columns turned by its angle. -/
def turned (t : Fin 1024 → ℝ) (p : Nat) (e : Fin 1024) : ℝ :=
  t e * Real.cos (turnAngle p e.val) + (if e.val % 2 = 0 then -t (mate e) else t (mate e)) * Real.sin (turnAngle p e.val)

/-- Column `d` of head `h`. -/
def colOfHead (h : Fin 16) (d : Fin 64) : Fin 1024 := ⟨64 * h.val + d.val, by omega⟩
/-- The head a column is in. -/
def headOf (e : Fin 1024) : Fin 16 := ⟨e.val / 64, by omega⟩

variable (x : Fin 8 → Fin 128 → Fin 512 → ℝ) (wq wk : Fin 512 → Fin 1024 → ℝ) (wv : Fin 512 → Fin 1024 → EReal) (wo : Fin 1024 → Fin 512 → EReal)

/-- A turned row of `x` times a weight: a query or a key. -/
def turnedRow (w : Fin 512 → Fin 1024 → ℝ) (b : Fin 8) (i : Fin 128) (e : Fin 1024) : ℝ :=
  turned (fun e => ∑ k, x b i k * w k e) i.val e

/-- The score of rows `i` and `j` in head `h` of sequence `b`. -/
def score (b : Fin 8) (h : Fin 16) (i j : Fin 128) : ℝ :=
  (∑ d, turnedRow x wq b i (colOfHead h d) * turnedRow x wk b j (colOfHead h d)) * 8⁻¹

/-- Its share among row `i`'s scores. -/
def share (b : Fin 8) (h : Fin 16) (i j : Fin 128) : ℝ :=
  Real.exp (score x wq wk b h i j) / ∑ j', Real.exp (score x wq wk b h i j')

/-- Row `j` of the values. -/
def value (b : Fin 8) (j : Fin 128) (e : Fin 1024) : EReal := ∑ k, (x b j k : EReal) * wv k e

/-- The values of a sequence averaged by row `i`'s shares. -/
def context (b : Fin 8) (i : Fin 128) (e : Fin 1024) : EReal :=
  ∑ j, (share x wq wk b (headOf e) i j : EReal) * value x wv b j e

/-- The attention's output. -/
def output (b : Fin 8) (i : Fin 128) (n : Fin 512) : EReal := ∑ e, context x wq wk wv b i e * wo e n

/-- A sum of reals, extended. -/
theorem coe_sum {n : Nat} (f : Fin n → ℝ) : ((∑ k, f k : ℝ) : EReal) = ∑ k, (f k : EReal) := by
  induction (Finset.univ : Finset (Fin n)) using Finset.induction_on with
  | empty => simp
  | insert a s ha ih => rw [Finset.sum_insert ha, Finset.sum_insert ha, EReal.coe_add, ih]

/-- A sum over 256 places in which only one half counts. -/
theorem sum_half {M : Type} [AddCommMonoid M] (r : Fin 256) (f : Fin 256 → M) :
    (∑ c : Fin 256, if r.val / 128 = c.val / 128 then f c else 0) = ∑ j : Fin 128, f ⟨128 * (r.val / 128) + j.val, by omega⟩ := by
  have hr := r.isLt
  rw [Fin.sum_univ_add (a := 128) (b := 128)]
  rcases (by omega : r.val / 128 = 0 ∨ r.val / 128 = 1) with e | e
  · rw [Finset.sum_eq_zero (s := Finset.univ) (f := fun j : Fin 128 => if r.val / 128 = (Fin.natAdd 128 j).val / 128 then _ else _), add_zero]
    · refine Finset.sum_congr rfl fun j _ => ?_
      rw [if_pos (by rw [Fin.val_castAdd]; omega)]
      exact congrArg f (Fin.ext (by simp [e]))
    · intro j _
      rw [if_neg (by rw [Fin.val_natAdd]; omega)]
  · rw [Finset.sum_eq_zero (s := Finset.univ) (f := fun j : Fin 128 => if r.val / 128 = (Fin.castAdd 128 j).val / 128 then _ else _), zero_add]
    · refine Finset.sum_congr rfl fun j _ => ?_
      rw [if_pos (by rw [Fin.val_natAdd]; omega)]
      exact congrArg f (Fin.ext (by simp [e, add_comm]))
    · intro j _
      rw [if_neg (by rw [Fin.val_castAdd]; omega)]

/-- Shares do not change when a number is taken from every score. -/
theorem share_shift {n : Nat} (s : Fin n → ℝ) (m : ℝ) (j : Fin n) :
    Real.exp (s j - m) / (∑ j', Real.exp (s j' - m)) = Real.exp (s j) / ∑ j', Real.exp (s j') := by
  simp only [Real.exp_sub, ← Finset.sum_div]
  rw [div_div_div_cancel_right₀ (Real.exp_ne_zero m)]

/-- The word of a count, read as a number. -/
theorem sitofp_nat (n : Nat) (h : n < 2 ^ 31) : FloatOps.sitofp (F := Ideal) .f32 (BitVec.ofNat 32 n) = ((n : ℝ) : EReal) := by
  show (((BitVec.ofNat 32 n).toInt : ℝ) : EReal) = _
  rw [show (BitVec.ofNat 32 n).toInt = (n : Int) from by
    rw [BitVec.toInt_eq_toNat_cond, BitVec.toNat_ofNat, Nat.mod_eq_of_lt (by omega), if_pos (by omega)]]
  simp

/-- The largest of finitely many real numbers is a real number. -/
theorem largest_real (f : Fin 128 → ℝ) : ∃ m : ℝ, Finset.fold max (⊥ : EReal) (fun j => (f j : EReal)) Finset.univ = m := by
  refine ⟨_, (EReal.coe_toReal (ne_of_lt ?_) (ne_of_gt ?_)).symm⟩
  · exact (Finset.fold_max_lt _).2 ⟨bot_lt_top, fun j _ => EReal.coe_lt_top _⟩
  · exact (Finset.lt_fold_max _).2 (.inr ⟨0, Finset.mem_univ _, EReal.bot_lt_coe _⟩)

theorem lowest : Ideal.ofBits .f32 0xFF800000#32 = ⊥ := by simp [Ideal.ofBits, Ideal.ieee]

theorem sixty_four : Ideal.ofBits .f32 0x42800000#32 = ((64 : ℝ) : EReal) := by
  simp [Ideal.ofBits, Ideal.ieee, -EReal.coe_mul]; norm_num

theorem ten_thousand : Ideal.ofBits .f32 0x461C4000#32 = ((10000 : ℝ) : EReal) := by
  simp [Ideal.ofBits, Ideal.ieee, -EReal.coe_mul]; norm_num

/-- One over a power of ten thousand is an exponential. -/
theorem rate_exp (n : ℝ) : 1 / Real.rpow 10000 (n * (1 / 64)) = Real.exp (n * (-(Real.log 10000) * 64⁻¹)) := by
  show 1 / (10000 : ℝ) ^ (n * (1 / 64)) = _
  rw [Real.rpow_def_of_pos (by norm_num), one_div, ← Real.exp_neg]
  congr 1; ring

/-- 0.125 -/
theorem eighth : Ideal.ofBits .f32 0x3E000000#32 = ((8⁻¹ : ℝ) : EReal) := by
  simp [Ideal.ofBits, Ideal.ieee, -EReal.coe_mul]; norm_num

end Cert.Attention
end
-- ==== Proof.Maths.Angle.lean ====
/- The kernel's tables read at an index: the rotation's angles, the even columns, the mask of equal
   sequences. Their integer words are checked for every row and column. -/
module

public import proofs.«01_k».proof.Proof.KernelIdeal.Values
public import proofs.«01_k».proof.Proof.Maths.Spec
public import Idealize.ShloMosaic.Lib.Pointwise

@[expose] public section

noncomputable section

namespace Cert.KernelIdeal.Work

open Cert.KernelIdeal Cert.KernelIdeal.Gen
open Idealize.ShloMosaic Idealize.SL.Sem Cert.Attention

set_option maxRecDepth 16384

theorem rate_eq : Named.named (F := Ideal) κ "rope_rate" (φ := .f32) 0xBE135D8E#32 = (((-(Real.log 10000)) * 64⁻¹ : ℝ) : EReal) := rfl

theorem angle_at (r l : Fin 256) : angle (F := Ideal) (ix2 r l) = ((turnAngle (r.val % 128) l.val : ℝ) : EReal) := by
  have h : angle (F := Ideal) (ix2 r l) = FloatOps.sitofp (F := Ideal) .f32 (BitVec.ofNat 32 (r.val % 128))
      * Ideal.exp (FloatOps.sitofp (F := Ideal) .f32 (BitVec.ofNat 32 (l.val % 64 / 2 * 2)) * Named.named (F := Ideal) κ "rope_rate" (φ := .f32) 0xBE135D8E#32) := by
    pointwise [angle, k0_pay6, k0_pay5, lane]
    refine congrArg₂ (· * ·) (congrArg _ ?_) (congrArg _ (congrArg (· * _) (congrArg _ ?_)))
    · revert r; decide +kernel
    · revert l; decide +kernel
  rw [h, sitofp_nat _ (by omega), sitofp_nat _ (by omega), rate_eq, ← EReal.coe_mul, Ideal.exp_coe, ← EReal.coe_mul]
  rfl

theorem even_at (r l : Fin 256) : evenT (ix2 r l) = BitVec.ofBool (l.val % 2 = 0) := by
  pointwise [evenT, k0_pay9, lane]
  revert l; decide +kernel

theorem same_at (r l : Fin 256) : sameSeq (F := Ideal) (ix2 r l) = if r.val / 128 = l.val / 128 then 1 else 0 := by
  have h : sameSeq (F := Ideal) (ix2 r l) = FloatOps.sitofp (F := Ideal) .f32 (BitVec.setWidth 32 (IntOp.cmpi .eq (BitVec.ofNat 32 (r.val / 128)) (BitVec.ofNat 32 (l.val / 128)))) := by
    pointwise [sameSeq, k0_pay11, k0_pay10, lane]
    refine congrArg _ (congrArg _ (congrArg₂ _ ?_ ?_))
    · revert r; decide +kernel
    · revert l; decide +kernel
  have bits : ∀ a b : Fin 2, BitVec.setWidth 32 (IntOp.cmpi .eq (BitVec.ofNat 32 a.val) (BitVec.ofNat 32 b.val))
      = BitVec.ofNat 32 (if a.val = b.val then 1 else 0) := by decide
  rw [h, bits ⟨r.val / 128, by omega⟩ ⟨l.val / 128, by omega⟩, sitofp_nat _ (by split <;> omega)]
  by_cases e : r.val / 128 = l.val / 128 <;> simp [e]

end Cert.KernelIdeal.Work
end
-- ==== Proof.Maths.Head.lean ====
/- One head of one device read at an index: queries and keys turned, scores and their masked exponentials,
   the values averaged. It is the whole attention's context at that device's columns. -/
module

public import proofs.«01_k».proof.Proof.Maths.Angle

@[expose] public section

noncomputable section

namespace Cert.KernelIdeal.Work

open Cert.KernelIdeal Cert.KernelIdeal.Gen
open Idealize.ShloMosaic Idealize.SL.Sem Cert.Attention

set_option maxRecDepth 16384

/-- A device's column `l` in the whole weights. -/
def colAt (c : Fin 4) (l : Fin 256) : Fin 1024 := ⟨256 * c.val + l.val, by omega⟩
/-- The sequence that row `r` of device `d` is in, and its position there. -/
def seqAt (d : Fin 4) (r : Fin 256) : Fin 8 := ⟨2 * d.val + r.val / 128, by omega⟩
def posAt (r : Fin 256) : Fin 128 := ⟨r.val % 128, by omega⟩

theorem turnAngle_colAt (c : Fin 4) (l : Fin 256) (p : Nat) : turnAngle p (colAt c l).val = turnAngle p l.val := by
  unfold turnAngle
  rw [show (colAt c l).val % 64 = l.val % 64 from by simp only [colAt]; omega]

/-- Shifting by one column each way, chosen by parity, turns the pairs. -/
theorem rope_at (t : FVec Ideal S256x256 .f32) (t' : Fin 1024 → ℝ) (c : Fin 4) (r : Fin 256)
    (ht : ∀ l, t (ix2 r l) = (t' (colAt c l) : EReal)) (l : Fin 256) :
    rope t (ix2 r l) = (turned t' (posAt r).val (colAt c l) : EReal) := by
  have hl := l.isLt
  pointwise [rope, cosT, sinT, angle_at, even_at, shiftL, shiftR]
  have hp : (colAt c l).val % 2 = l.val % 2 := by simp only [colAt]; omega
  unfold turned
  rw [turnAngle_colAt, hp]
  by_cases e : l.val % 2 = 0
  · rw [if_pos e, if_pos e, dif_pos (by omega), ht, ht,
      show mate (colAt c l) = colAt c ⟨1 + l.val, by omega⟩ from Fin.ext (by simp only [mate, hp, if_pos e]; simp only [colAt]; omega)]
    simp [posAt]
  · rw [if_neg e, if_neg e, dif_neg (by omega), ht, ht,
      show mate (colAt c l) = colAt c ⟨l.val - 1, by omega⟩ from Fin.ext (by simp only [mate, hp, if_neg e]; simp only [colAt]; omega)]
    simp [posAt]

theorem proj_at (w : FVec Ideal S512x768 .bf16) (x : FVec Ideal S256x512 .bf16) (r : Fin 256) (l : Fin 768) :
    proj w x (ix2 r l) = ∑ k : Fin 512, x (ix2 r k) * w (ix2 k l) := by
  pointwise [proj]

theorem qOf_at (t : FVec Ideal S256x768 .f32) (r l : Fin 256) :
    qOf t (ix2 r l) = rope (extractStridedSlice S256x256 ![0, 0] t slices_S256x768_o0_0_S256x256) (ix2 r l) * ((8⁻¹ : ℝ) : EReal) := by
  pointwise [qOf, eighth]

theorem kOf_at (t : FVec Ideal S256x768 .f32) (r l : Fin 256) :
    kOf t (ix2 r l) = rope (extractStridedSlice S256x256 ![0, 256] t slices_S256x768_o0_256_S256x256) (ix2 r l) := by
  pointwise [kOf]

theorem vOf_at (t : FVec Ideal S256x768 .f32) (r l : Fin 256) : vOf t (ix2 r l) = t (ix2 r ⟨512 + l.val, by omega⟩) := by
  pointwise [vOf]

theorem headCols_at (t : FVec Ideal S256x256 .bf16) (h : Fin 4) (r : Fin 256) (d : Fin 64) :
   headCols t h (ix2 r d) = t (ix2 r ⟨64 * h.val + d.val, by omega⟩) := by
  pointwise [headCols]

theorem weights_at (q k : FVec Ideal S256x64 .bf16) (r c : Fin 256) :
    weights q k (ix2 r c) = Ideal.exp (∑ d : Fin 64, q (ix2 r d) * k (ix2 c d)) * sameSeq (F := Ideal) (ix2 r c) := by
  pointwise [weights]

theorem normed_at (w : FVec Ideal S256x256 .f32) (r c : Fin 256) :
    normed w (ix2 r c) = Ideal.div (w (ix2 r c)) (∑ c' : Fin 256, w (ix2 r c')) := by
  pointwise [normed]

theorem attend_at (q k v : FVec Ideal S256x64 .bf16) (r : Fin 256) (d : Fin 64) :
    attend q k v (ix2 r d) = ∑ c : Fin 256, normed (weights q k) (ix2 r c) * v (ix2 c d) := by
  pointwise [attend]

variable {X : Fin 8 → Fin 128 → Fin 512 → ℝ} {wq wk : Fin 512 → Fin 1024 → ℝ} {wv : Fin 512 → Fin 1024 → EReal}

/-- The weights `w` are device `c`'s columns of the whole ones, the rows `x` device `d`'s of the whole `X`. -/
structure Reads (X : Fin 8 → Fin 128 → Fin 512 → ℝ) (wq wk : Fin 512 → Fin 1024 → ℝ) (wv : Fin 512 → Fin 1024 → EReal)
    (c d : Fin 4) (w : FVec Ideal S512x768 .bf16) (x : FVec Ideal S256x512 .bf16) : Prop where
  rows : ∀ r k, x (ix2 r k) = (X (seqAt d r) (posAt r) k : EReal)
  query : ∀ k (l : Fin 256), w (ix2 k ⟨l.val, by omega⟩) = (wq k (colAt c l) : EReal)
  key : ∀ k (l : Fin 256), w (ix2 k ⟨256 + l.val, by omega⟩) = (wk k (colAt c l) : EReal)
  val : ∀ k (l : Fin 256), w (ix2 k ⟨512 + l.val, by omega⟩) = wv k (colAt c l)

variable {c d : Fin 4} {w : FVec Ideal S512x768 .bf16} {x : FVec Ideal S256x512 .bf16}

theorem query_at (H : Reads X wq wk wv c d w x) (r l : Fin 256) :
    qOf (proj w x) (ix2 r l) = ((turnedRow X wq (seqAt d r) (posAt r) (colAt c l) * 8⁻¹ : ℝ) : EReal) := by
  rw [qOf_at, rope_at _ (fun e => ∑ k, X (seqAt d r) (posAt r) k * wq k e) c r, EReal.coe_mul]
  · rfl
  · intro l
    pointwise [proj]
    simp only [H.rows, H.query, coe_sum, EReal.coe_mul]

theorem key_at (H : Reads X wq wk wv c d w x) (r l : Fin 256) :
    kOf (proj w x) (ix2 r l) = (turnedRow X wk (seqAt d r) (posAt r) (colAt c l) : EReal) := by
  rw [kOf_at, rope_at _ (fun e => ∑ k, X (seqAt d r) (posAt r) k * wk k e) c r]
  · rfl
  · intro l
    pointwise [proj]
    simp only [H.rows, H.key, coe_sum, EReal.coe_mul]

theorem val_at (H : Reads X wq wk wv c d w x) (r l : Fin 256) :
    vOf (proj w x) (ix2 r l) = value X wv (seqAt d r) (posAt r) (colAt c l) := by
  rw [vOf_at, proj_at]
  simp only [H.rows, H.val, value]

/-- A device's head in the whole. -/
def headAt (c h : Fin 4) : Fin 16 := ⟨4 * c.val + h.val, by omega⟩

theorem colAt_head (c h : Fin 4) (d : Fin 64) : colAt c ⟨64 * h.val + d.val, by omega⟩ = colOfHead (headAt c h) d :=
  Fin.ext (by simp only [colAt, colOfHead, headAt]; omega)

theorem weights_real (H : Reads X wq wk wv c d w x) (h : Fin 4) (r j : Fin 256) :
    weights (headCols (qOf (proj w x)) h) (headCols (kOf (proj w x)) h) (ix2 r j)
      = ((if r.val / 128 = j.val / 128 then Real.exp (score X wq wk (seqAt d r) (headAt c h) (posAt r) (posAt j)) else 0 : ℝ) : EReal) := by
  rw [weights_at, same_at]
  by_cases e : r.val / 128 = j.val / 128
  · have hs : seqAt d j = seqAt d r := Fin.ext (by simp only [seqAt, e])
    simp only [headCols_at, query_at H, key_at H, colAt_head, if_pos e, mul_one, ← EReal.coe_mul, ← coe_sum, Ideal.exp_coe, hs]
    refine congrArg _ (congrArg Real.exp ?_)
    unfold score
    rw [Finset.sum_mul]
    exact Finset.sum_congr rfl fun _ _ => mul_right_comm _ _ _
  · simp [if_neg e]

/-- One head of one device: the whole attention's context, at that device's rows and that head's columns. -/
theorem head_at (H : Reads X wq wk wv c d w x) (h : Fin 4) (r : Fin 256) (e : Fin 64) :
    head w x h (ix2 r e) = context X wq wk wv (seqAt d r) (posAt r) (colOfHead (headAt c h) e) := by
  have pos : 0 < ∑ j, Real.exp (score X wq wk (seqAt d r) (headAt c h) (posAt r) j) := Finset.sum_pos (fun _ _ => Real.exp_pos _) Finset.univ_nonempty
  have hq : ∀ j : Fin 128, posAt ⟨128 * (r.val / 128) + j.val, by omega⟩ = j := fun j => Fin.ext (by simp only [posAt]; omega)
  have hb : ∀ j : Fin 128, seqAt d ⟨128 * (r.val / 128) + j.val, by omega⟩ = seqAt d r := fun j => Fin.ext (by simp only [seqAt]; omega)
  have hh : headOf (colOfHead (headAt c h) e) = headAt c h := Fin.ext (by simp only [headOf, colOfHead]; omega)
  have total : (∑ j : Fin 256, weights (headCols (qOf (proj w x)) h) (headCols (kOf (proj w x)) h) (ix2 r j))
      = ((∑ j, Real.exp (score X wq wk (seqAt d r) (headAt c h) (posAt r) j) : ℝ) : EReal) := by
    simp only [weights_real H, ← coe_sum]
    rw [sum_half r fun j => Real.exp (score X wq wk (seqAt d r) (headAt c h) (posAt r) (posAt j))]
    simp only [hq]
  unfold head context
  rw [attend_at]
  simp only [normed_at, total]
  simp only [weights_real H, headCols_at, val_at H, colAt_head]
  have each : ∀ j : Fin 256, Ideal.div ((if r.val / 128 = j.val / 128 then Real.exp (score X wq wk (seqAt d r) (headAt c h) (posAt r) (posAt j)) else 0 : ℝ) : EReal)
        ((∑ j, Real.exp (score X wq wk (seqAt d r) (headAt c h) (posAt r) j) : ℝ) : EReal)
        * value X wv (seqAt d j) (posAt j) (colOfHead (headAt c h) e)
      = if r.val / 128 = j.val / 128 then (share X wq wk (seqAt d r) (headAt c h) (posAt r) (posAt j) : EReal) * value X wv (seqAt d j) (posAt j) (colOfHead (headAt c h) e) else 0 := by
    intro j
    rw [Ideal.div_coe pos.ne', ← EReal.coe_mul]
    by_cases e : r.val / 128 = j.val / 128
    · rw [if_pos e, if_pos e, share, mul_one_div]
    · rw [if_neg e, if_neg e, zero_mul, EReal.coe_zero, zero_mul]
  simp only [each]
  rw [sum_half r fun j => (share X wq wk (seqAt d r) (headAt c h) (posAt r) (posAt j) : EReal) * value X wv (seqAt d j) (posAt j) (colOfHead (headAt c h) e)]
  simp only [hq, hb, hh]

end Cert.KernelIdeal.Work
end
-- ==== Proof.Maths.Output.lean ====
/- A device's result: its rows of the whole attention's output, gathered from the four devices' heads. -/
module

public import proofs.«01_k».proof.Proof.Maths.Head
public import proofs.«01_k».proof.Proof.KernelIdeal.Run

@[expose] public section

noncomputable section

namespace Cert.KernelIdeal.Work

open Cert.KernelIdeal Cert.KernelIdeal.Gen
open Idealize.ShloMosaic Idealize.ShloMosaic.TcCoe Idealize.SL.Sem Cert.Attention

set_option maxRecDepth 16384

variable (m : (ℓ : Loc nD τ sig) → Buf (Elt Ideal) ℓ)

/-- Every device's arguments are its blocks of the whole arrays. -/
structure Blocks (X : Fin 8 → Fin 128 → Fin 512 → ℝ) (wq wk : Fin 512 → Fin 1024 → ℝ) (wv : Fin 512 → Fin 1024 → EReal)
    (wo : Fin 1024 → Fin 512 → EReal) : Prop where
  rows : ∀ (d : Fin 4) (b : Fin 2) i k, xArg m d (ix3 b i k) = (X ⟨2 * d.val + b.val, by omega⟩ i k : EReal)
  query : ∀ (c : Fin 4) k (l : Fin 256), wqArg m c (ix2 k l) = (wq k (colAt c l) : EReal)
  key : ∀ (c : Fin 4) k (l : Fin 256), wkArg m c (ix2 k l) = (wk k (colAt c l) : EReal)
  val : ∀ (c : Fin 4) k (l : Fin 256), wvArg m c (ix2 k l) = wv k (colAt c l)
  out : ∀ (c : Fin 4) (l : Fin 256) n, woArg m c (ix2 l n) = wo (colAt c l) n

variable {m} {X : Fin 8 → Fin 128 → Fin 512 → ℝ} {wq wk : Fin 512 → Fin 1024 → ℝ} {wv : Fin 512 → Fin 1024 → EReal}
    {wo : Fin 1024 → Fin 512 → EReal}

theorem reads (H : Blocks m X wq wk wv wo) (c d : Fin 4) : Reads X wq wk wv c d (wV m c) (rowsV m d) where
  rows r k := by
    refine Eq.trans ?_ (H.rows d ⟨r.val / 128, by omega⟩ (posAt r) k)
    pointwise [rowsV, k0_pay2]
    rfl
  query k l := by
    refine Eq.trans ?_ (H.query c k l)
    pointwise [wV, k0_pay3]
  key k l := by
    refine Eq.trans ?_ (H.key c k l)
    pointwise [wV, k0_pay3]
  val k l := by
    refine Eq.trans ?_ (H.val c k l)
    pointwise [wV, k0_pay3]
    rw [dif_neg (by omega), dif_neg (by omega)]
    exact congrArg (fun l => wvArg m c (ix2 k l)) (Fin.ext (by simp only []; omega))

theorem side_at (y : Fin 4 → FVec Ideal S256x64 .bf16) (r l : Fin 256) :
    side y (ix2 r l) = y ⟨l.val / 64, by omega⟩ (ix2 r ⟨l.val % 64, by omega⟩) := by
  unfold side
  refine congrArg₂ (fun h i => y h i) rfl ?_
  funext a
  match a with
  | ⟨0, _⟩ => rfl
  | ⟨1, _⟩ => rfl

/-- Device `c`'s part of device `d`'s output: the sum over `c`'s own columns. -/
theorem part_at (H : Blocks m X wq wk wv wo) (c d : Fin 4) (r : Fin 256) (n : Fin 512) :
    part m c d (ix2 r n) = ∑ l : Fin 256, context X wq wk wv (seqAt d r) (posAt r) (colAt c l) * wo (colAt c l) n := by
  have h : part m c d (ix2 r n) = ∑ l : Fin 256, side (head (wV m c) (rowsV m d)) (ix2 r l) * woArg m c (ix2 l n) := by
    pointwise [part, projOut, woV, k0_pay4]
  rw [h]
  refine Finset.sum_congr rfl fun l _ => ?_
  rw [side_at, head_at (reads H c d), H.out]
  refine congrArg (fun e => context X wq wk wv _ _ e * _) (Fin.ext ?_)
  simp only [colOfHead, headAt, colAt]
  omega

/-- All columns are the four devices' columns. -/
theorem sum_columns (f : Fin 1024 → EReal) : (∑ c : Fin 4, ∑ l : Fin 256, f (colAt c l)) = ∑ e, f e := by
  rw [← Fintype.sum_prod_type' fun (c : Fin 4) (l : Fin 256) => f (colAt c l)]
  exact Fintype.sum_equiv (finProdFinEquiv (m := 4) (n := 256)) _ _ fun x =>
    congrArg f (Fin.ext (by simp only [colAt, finProdFinEquiv_apply_val]; omega))

/-- The four parts, in whatever order a device adds them. -/
theorem sum_round (f : Fin 4 → EReal) (c : Fin 4) : f c + f (dn 2 c) + f (dn 1 c) + f (dn 0 c) = ∑ c, f c := by
  rw [Fin.sum_univ_four]
  match c with
  | 0 => rfl
  | 1 => show f 1 + f 2 + f 3 + f 0 = _; ac_rfl
  | 2 => show f 2 + f 3 + f 0 + f 1 = _; ac_rfl
  | 3 => show f 3 + f 0 + f 1 + f 2 = _; ac_rfl

/-- A device's result. -/
theorem result_at (H : Blocks m X wq wk wv wo) (d : Fin 4) (b : Fin 2) (i : Fin 128) (n : Fin 512) :
    result m d (ix3 b i n) = output X wq wk wv wo ⟨2 * d.val + b.val, by omega⟩ i n := by
  have h : result m d (ix3 b i n) = part m d d (ix2 ⟨b.val * 128 + i.val, by omega⟩ n) + part m (dn 2 d) d (ix2 ⟨b.val * 128 + i.val, by omega⟩ n)
      + part m (dn 1 d) d (ix2 ⟨b.val * 128 + i.val, by omega⟩ n) + part m (dn 0 d) d (ix2 ⟨b.val * 128 + i.val, by omega⟩ n) := by
    pointwise [result, k0_pay1, addRecv, toSend]
  rw [h, sum_round fun c => part m c d (ix2 ⟨b.val * 128 + i.val, by omega⟩ n)]
  simp only [part_at H]
  rw [sum_columns fun e => context X wq wk wv (seqAt d ⟨b.val * 128 + i.val, by omega⟩) (posAt ⟨b.val * 128 + i.val, by omega⟩) e * wo e n]
  have hs : seqAt d ⟨b.val * 128 + i.val, by omega⟩ = ⟨2 * d.val + b.val, by omega⟩ := Fin.ext (by simp only [seqAt]; omega)
  have hp : posAt ⟨b.val * 128 + i.val, by omega⟩ = i := Fin.ext (by simp only [posAt]; omega)
  rw [hs, hp]
  rfl

end Cert.KernelIdeal.Work
end
-- ==== Proof.Maths.Reference.lean ====
/- The reference's result in its parts: angles, queries and keys, scores, shares, context; each read at an
   index as the attention of the whole arrays. -/
module

public import proofs.«01_k».proof.Proof.Gen.ReferenceIdeal.Run
public import proofs.«01_k».proof.Proof.Maths.Spec
public import Idealize.ShloMosaic.Lib.Pointwise

@[expose] public section

noncomputable section

namespace Cert.ReferenceIdeal.Work

open Cert.ReferenceIdeal Cert.ReferenceIdeal.Gen
open Idealize.ShloMosaic Idealize.ShloMosaic.TcCoe Idealize.SL.Sem Cert.Attention

set_option maxRecDepth 16384

/-- The rate of a pair of columns: one over a power of ten thousand. -/
def rates : FVec Ideal S32 .f32 :=
  Host.divf (broadcastInDim S32 ![] bcast_S_S32 (constant S_ .f32 0x3F800000#32))
    (Host.powf (broadcastInDim S32 ![] bcast_S_S32 (constant S_ .f32 0x461C4000#32))
      (Host.divf (sitofp .f32 (addi (broadcastInDim S32 ![] bcast_S_S32 (constantI S_ 32 0#32))
          (muli (broadcastInDim S32 ![] bcast_S_S32 (constantI S_ 32 2#32)) (iotaInDim S32 32 0))))
        (broadcastInDim S32 ![] bcast_S_S32 (constant S_ .f32 0x42800000#32))))

/-- The angle of a position and a pair. -/
def angles : FVec Ideal S128x32 .f32 :=
  mulf (broadcastInDim S128x32 ![0, 1] bcast_S128x1_S128x32_0_1
      (sitofp .f32 (broadcastInDim S128x1 ![0] bcast_S128_S128x1_0 (iotaInDim S128 32 0))))
    (broadcastInDim S128x32 ![0, 1] bcast_S1x32_S128x32_0_1 (broadcastInDim S1x32 ![1] bcast_S32_S1x32_1 rates))

/-- A function of the angles, once for each column of a pair, over all sequences and heads. -/
def spread (f : FVec Ideal S128x32 .f32) : FVec Ideal S8x128x16x64 .f32 :=
  broadcastInDim S8x128x16x64 ![0, 1, 2, 3] bcast_S1x128x1x64_S8x128x16x64_0_1_2_3
    (broadcastInDim S1x128x1x64 ![1, 3] bcast_S128x64_S1x128x1x64_1_3
      (shapeCast S128x64 (broadcastInDim S128x32x2 ![0, 1] bcast_S128x32_S128x32x2_0_1 f) shapeCasts_S128x32x2_S128x64))

/-- The rows times a weight, the columns cut into heads. -/
def heads (x : FVec Ideal S8x128x512 .bf16) (w : FVec Ideal S512x1024 .bf16) : FVec Ideal S8x128x16x64 .f32 :=
  shapeCast S8x128x16x64
    (Host.dotGeneral dot_S8x128x512_S512x1024_S8x128x1024_2_0_01_1_n_n none (extf .f32 x bitsLt_bf16_f32) (extf .f32 w bitsLt_bf16_f32))
    shapeCasts_S8x128x1024_S8x128x16x64

/-- The columns in pairs. -/
def pairs (t : FVec Ideal S8x128x16x64 .f32) : FVec Ideal S8x128x16x32x2 .f32 := shapeCast S8x128x16x32x2 t shapeCasts_S8x128x16x64_S8x128x16x32x2

/-- Each pair's columns exchanged, the second negated. -/
def crossed (t : FVec Ideal S8x128x16x64 .f32) : FVec Ideal S8x128x16x64 .f32 :=
  shapeCast S8x128x16x64
    (concatenate S8x128x16x32x2 4
      [⟨S8x128x16x32x1, broadcastInDim S8x128x16x32x1 ![0, 1, 2, 3] bcast_S8x128x16x32_S8x128x16x32x1_0_1_2_3
          (Host.negf (shapeCast S8x128x16x32 (extractStridedSlice S8x128x16x32x1 ![0, 0, 0, 0, 1] (pairs t) slices_S8x128x16x32x2_S8x128x16x32x1_0_0_0_0_1)
            shapeCasts_S8x128x16x32x1_S8x128x16x32))⟩,
       ⟨S8x128x16x32x1, broadcastInDim S8x128x16x32x1 ![0, 1, 2, 3] bcast_S8x128x16x32_S8x128x16x32x1_0_1_2_3
          (shapeCast S8x128x16x32 (extractStridedSlice S8x128x16x32x1 ![0, 0, 0, 0, 0] (pairs t) slices_S8x128x16x32x2_S8x128x16x32x1_0_0_0_0_0)
            shapeCasts_S8x128x16x32x1_S8x128x16x32)⟩]
      concatenates_S8x128x16x32x1_S8x128x16x32x1_S8x128x16x32x2_d4)
    shapeCasts_S8x128x16x32x2_S8x128x16x64

/-- The pairs turned. -/
def rotated (t : FVec Ideal S8x128x16x64 .f32) : FVec Ideal S8x128x16x64 .f32 :=
  addf (mulf t (spread (Host.cos angles))) (mulf (crossed t) (spread (Host.sin angles)))

/-- The scores of every pair of rows of one sequence, in every head. -/
def scores (q k : FVec Ideal S8x128x16x64 .f32) : FVec Ideal S8x16x128x128 .f32 :=
  mulf (Host.dotGeneral dot_S8x128x16x64_S8x128x16x64_S8x16x128x128_3_3_1_1_02_02 none q k)
    (broadcastInDim S8x16x128x128 ![] bcast_S_S8x16x128x128 (constant S_ .f32 0x3E000000#32))

/-- A row's value at every place of the row. -/
def along (t : FVec Ideal S8x16x128 .f32) : FVec Ideal S8x16x128x128 .f32 :=
  broadcastInDim S8x16x128x128 ![0, 1, 2, 3] bcast_S8x16x128x1_S8x16x128x128_0_1_2_3
    (broadcastInDim S8x16x128x1 ![0, 1, 2] bcast_S8x16x128_S8x16x128x1_0_1_2 t)

/-- Each row's largest score. -/
def largest (s : FVec Ideal S8x16x128x128 .f32) : FVec Ideal S8x16x128 .f32 :=
  Host.reduce FloatOps.maximumf s (constant S_ .f32 0xFF800000#32) reducesTo_S8x16x128x128_S8x16x128_d3 h_S_

/-- The exponentials of the scores below the largest. -/
def exps (s : FVec Ideal S8x16x128x128 .f32) : FVec Ideal S8x16x128x128 .f32 := Host.exp (subf s (along (largest s)))

/-- Exponentials over their row sums. -/
def shares (e : FVec Ideal S8x16x128x128 .f32) : FVec Ideal S8x16x128x128 .f32 :=
  Host.divf e (along (Host.reduceAdd e (constant S_ .f32 0x00000000#32) reducesTo_S8x16x128x128_S8x16x128_d3 h_S_))

/-- The values averaged, the heads side by side, times the output weight. -/
def outs (v : FVec Ideal S8x128x16x64 .f32) (w : FVec Ideal S8x16x128x128 .f32) (wo : FVec Ideal S1024x512 .bf16) : FVec Ideal S8x128x512 .f32 :=
  Host.dotGeneral dot_S8x128x1024_S1024x512_S8x128x512_2_0_01_1_n_n none
    (shapeCast S8x128x1024
      (transpose S8x128x16x64 [0, 3, 1, 2] (Host.dotGeneral dot_S8x128x16x64_S8x16x128x128_S8x16x64x128_1_3_3_2_02_01 none v w)
        transposes_S8x16x64x128_S8x128x16x64_0_3_1_2) shapeCasts_S8x128x16x64_S8x128x1024)
    (extf .f32 wo bitsLt_bf16_f32)

/-- The reference as a function of its arguments. -/
def attention (x : FVec Ideal S8x128x512 .bf16) (wq wk wv : FVec Ideal S512x1024 .bf16) (wo : FVec Ideal S1024x512 .bf16) : FVec Ideal S8x128x512 .f32 :=
  outs (heads x wv) (shares (exps (scores (rotated (heads x wq)) (rotated (heads x wk))))) wo

theorem res_eq (m : (ℓ : Loc nD τ sig) → Buf (Elt Ideal) ℓ) (c : Dev nD) :
    Cert.ReferenceIdeal.Value.res_out0 m c = attention (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.Value.res_out0 Cert.ReferenceIdeal.Value.res_main_v85
  rfl

theorem rates_at (e : Fin 32) : rates (ix1 e) = ((Real.exp ((2 * e.val : Nat) * (-(Real.log 10000) * 64⁻¹)) : ℝ) : EReal) := by
  have h : rates (ix1 e) = Ideal.div 1 (Ideal.pow (Ideal.ofBits .f32 0x461C4000#32)
      (Ideal.div (FloatOps.sitofp (F := Ideal) .f32 (BitVec.ofNat 32 (2 * e.val))) (Ideal.ofBits .f32 0x42800000#32))) := by
    pointwise [rates]
    refine congrArg (Ideal.div 1) (congrArg _ (congrArg (Ideal.div · _) (congrArg _ ?_)))
    revert e; decide +kernel
  have hp : Real.rpow 10000 ((2 * e.val : Nat) * (1 / 64)) ≠ 0 := (Real.rpow_pos_of_pos (by norm_num) _).ne'
  rw [h, sitofp_nat _ (by omega), sixty_four, ten_thousand, Ideal.div_coe (by norm_num), ← EReal.coe_mul, Ideal.pow_coe_coe,
    Ideal.div_coe hp, one_mul, rate_exp]

theorem angles_at (i : Fin 128) (e : Fin 32) (d : Nat) (hd : d % 64 / 2 = e.val) : angles (ix2 i e) = (turnAngle i.val d : EReal) := by
  have h : angles (ix2 i e) = FloatOps.sitofp (F := Ideal) .f32 (BitVec.ofNat 32 i.val) * rates (ix1 e) := by pointwise [angles]
  rw [h, rates_at, sitofp_nat _ (by omega), ← EReal.coe_mul, turnAngle, hd, mul_comm e.val 2]

theorem spread_at (f : FVec Ideal S128x32 .f32) (b : Fin 8) (i : Fin 128) (h : Fin 16) (d : Fin 64) :
    spread f (ix4 b i h d) = f (ix2 i ⟨d.val / 2, by omega⟩) := by
  pointwise [spread]

theorem heads_at (x : FVec Ideal S8x128x512 .bf16) (w : FVec Ideal S512x1024 .bf16) (b : Fin 8) (i : Fin 128) (h : Fin 16) (d : Fin 64) :
    heads x w (ix4 b i h d) = ∑ k : Fin 512, x (ix3 b i k) * w (ix2 k (colOfHead h d)) := by
  have e : heads x w (ix4 b i h d) = ∑ k : Fin 512, x (ix3 b i k) * w (ix2 k ⟨h.val * 64 + d.val, by omega⟩) := by pointwise [heads]
  rw [e, show (⟨h.val * 64 + d.val, by omega⟩ : Fin 1024) = colOfHead h d from Fin.ext (by simp only [colOfHead, mul_comm])]

theorem crossed_at (f : FVec Ideal S8x128x16x64 .f32) (b : Fin 8) (i : Fin 128) (h : Fin 16) (d : Fin 64) :
    crossed f (ix4 b i h d) = if d.val % 2 < 1 then -f (ix4 b i h ⟨d.val / 2 * 2 + 1, by omega⟩) else f (ix4 b i h ⟨d.val / 2 * 2, by omega⟩) := by
  pointwise [crossed, pairs]
  rfl

/-- Exchanging and negating within pairs, then turning, turns the pairs. -/
theorem rotated_at (t : FVec Ideal S8x128x16x64 .f32) (t' : Fin 1024 → ℝ) (b : Fin 8) (i : Fin 128) (h : Fin 16)
    (ht : ∀ d, t (ix4 b i h d) = (t' (colOfHead h d) : EReal)) (d : Fin 64) :
    rotated t (ix4 b i h d) = (turned t' i.val (colOfHead h d) : EReal) := by
  have e : rotated t (ix4 b i h d) = t (ix4 b i h d) * spread (Host.cos angles) (ix4 b i h d) + crossed t (ix4 b i h d) * spread (Host.sin angles) (ix4 b i h d) := by
    pointwise [rotated]
  have hm : (colOfHead h d).val % 64 / 2 = d.val / 2 := by simp only [colOfHead]; omega
  have ha := angles_at i ⟨d.val / 2, by omega⟩ (colOfHead h d).val hm
  have hc : Host.cos angles (ix2 i ⟨d.val / 2, by omega⟩) = Ideal.cos (angles (ix2 i ⟨d.val / 2, by omega⟩)) := by pointwise
  have hs : Host.sin angles (ix2 i ⟨d.val / 2, by omega⟩) = Ideal.sin (angles (ix2 i ⟨d.val / 2, by omega⟩)) := by pointwise
  rw [e, spread_at, spread_at, hc, hs, ha, crossed_at, ht, Ideal.cos_coe, Ideal.sin_coe, turned]
  have hp : (colOfHead h d).val % 2 = d.val % 2 := by simp only [colOfHead]; omega
  rw [hp]
  by_cases e : d.val % 2 = 0
  · rw [if_pos e, if_pos (by omega), ht,
      show mate (colOfHead h d) = colOfHead h ⟨d.val / 2 * 2 + 1, by omega⟩ from Fin.ext (by simp only [mate, hp, if_pos e]; simp only [colOfHead]; omega)]
    simp
  · rw [if_neg e, if_neg (by omega), ht,
      show mate (colOfHead h d) = colOfHead h ⟨d.val / 2 * 2, by omega⟩ from Fin.ext (by simp only [mate, hp, if_neg e]; simp only [colOfHead]; omega)]
    simp

theorem scores_at (q k : FVec Ideal S8x128x16x64 .f32) (b : Fin 8) (h : Fin 16) (i j : Fin 128) :
    scores q k (ix4 b h i j) = (∑ d : Fin 64, q (ix4 b i h d) * k (ix4 b j h d)) * ((8⁻¹ : ℝ) : EReal) := by
  pointwise [scores, eighth]

theorem exps_at (s : FVec Ideal S8x16x128x128 .f32) (b : Fin 8) (h : Fin 16) (i j : Fin 128) :
    exps s (ix4 b h i j) = Ideal.exp (s (ix4 b h i j) - Finset.fold max ⊥ (fun j => s (ix4 b h i j)) Finset.univ) := by
  pointwise [exps, along, largest, lowest]

theorem shares_at (s : FVec Ideal S8x16x128x128 .f32) (b : Fin 8) (h : Fin 16) (i j : Fin 128) :
    shares s (ix4 b h i j) = Ideal.div (s (ix4 b h i j)) (∑ j : Fin 128, s (ix4 b h i j)) := by
  pointwise [shares, along]

theorem outs_at (v : FVec Ideal S8x128x16x64 .f32) (s : FVec Ideal S8x16x128x128 .f32) (wo : FVec Ideal S1024x512 .bf16) (b : Fin 8) (i : Fin 128) (n : Fin 512) :
    outs v s wo (ix3 b i n) = ∑ e : Fin 1024, (∑ j : Fin 128, v (ix4 b j (headOf e) ⟨e.val % 64, by omega⟩) * s (ix4 b (headOf e) i j)) * wo (ix2 e n) := by
  pointwise [outs]
  rfl

variable {X : Fin 8 → Fin 128 → Fin 512 → ℝ} {wq wk : Fin 512 → Fin 1024 → ℝ}
  {x : FVec Ideal S8x128x512 .bf16} {wQ wK : FVec Ideal S512x1024 .bf16}

theorem turned_at {w : FVec Ideal S512x1024 .bf16} {w' : Fin 512 → Fin 1024 → ℝ} (hx : ∀ b i k, x (ix3 b i k) = (X b i k : EReal))
    (hw : ∀ k e, w (ix2 k e) = (w' k e : EReal)) (b : Fin 8) (i : Fin 128) (h : Fin 16) (d : Fin 64) :
    rotated (heads x w) (ix4 b i h d) = (turnedRow X w' b i (colOfHead h d) : EReal) :=
  rotated_at _ (fun e => ∑ k, X b i k * w' k e) b i h (fun d => by
    simp only [heads_at, hx, hw, coe_sum, EReal.coe_mul]) d

theorem score_at (hx : ∀ b i k, x (ix3 b i k) = (X b i k : EReal)) (hq : ∀ k e, wQ (ix2 k e) = (wq k e : EReal))
    (hk : ∀ k e, wK (ix2 k e) = (wk k e : EReal)) (b : Fin 8) (h : Fin 16) (i j : Fin 128) :
    scores (rotated (heads x wQ)) (rotated (heads x wK)) (ix4 b h i j) = (score X wq wk b h i j : EReal) := by
  simp only [scores_at, turned_at hx hq, turned_at hx hk, ← EReal.coe_mul, ← coe_sum]
  rfl

theorem share_at (hx : ∀ b i k, x (ix3 b i k) = (X b i k : EReal)) (hq : ∀ k e, wQ (ix2 k e) = (wq k e : EReal))
    (hk : ∀ k e, wK (ix2 k e) = (wk k e : EReal)) (b : Fin 8) (h : Fin 16) (i j : Fin 128) :
    shares (exps (scores (rotated (heads x wQ)) (rotated (heads x wK)))) (ix4 b h i j) = (share X wq wk b h i j : EReal) := by
  obtain ⟨m, hm⟩ := largest_real fun j => score X wq wk b h i j
  simp only [shares_at, exps_at, score_at hx hq hk, hm, ← EReal.coe_sub, Ideal.exp_coe, ← coe_sum]
  rw [Ideal.div_coe (Finset.sum_pos (fun _ _ => Real.exp_pos _) Finset.univ_nonempty).ne', ← EReal.coe_mul, mul_one_div,
    share_shift (fun j => score X wq wk b h i j) m j, share]

/-- The reference computes the attention of the whole arrays. -/
theorem attention_at (hx : ∀ b i k, x (ix3 b i k) = (X b i k : EReal)) (hq : ∀ k e, wQ (ix2 k e) = (wq k e : EReal))
    (hk : ∀ k e, wK (ix2 k e) = (wk k e : EReal)) (wv : FVec Ideal S512x1024 .bf16) (wo : FVec Ideal S1024x512 .bf16)
    (b : Fin 8) (i : Fin 128) (n : Fin 512) :
    attention x wQ wK wv wo (ix3 b i n) = output X wq wk (fun k e => wv (ix2 k e)) (fun e n => wo (ix2 e n)) b i n := by
  unfold attention
  rw [outs_at]
  refine Finset.sum_congr rfl fun e _ => congrArg (· * wo (ix2 e n)) (Finset.sum_congr rfl fun j _ => ?_)
  have he : colOfHead (headOf e) ⟨e.val % 64, by omega⟩ = e := Fin.ext (by simp only [colOfHead, headOf]; omega)
  rw [share_at hx hq hk, heads_at, he, mul_comm]
  simp only [hx, value]

end Cert.ReferenceIdeal.Work
end
-- ==== Proof.Maths.Algebraic.lean ====
/- The kernel over the extended reals against the reference: every device's result is its two sequences of
   the attention that the reference computes of the whole arrays. -/
module

public import proofs.«01_k».proof.Proof.Maths.Finite
public import proofs.«01_k».proof.Proof.Maths.Output
public import proofs.«01_k».proof.Proof.Maths.Reference

@[expose] public section

noncomputable section

namespace Cert.Proof

open Idealize.ShloMosaic Idealize.SL.Sem Cert.Attention
open Cert.KernelIdeal.Work (colAt)

/-- Index `(b, i, k)` of device `c`'s two sequences, in the whole. -/
theorem block_rows (c : Fin 4) (v : (⟨3, ![8, 128, 512]⟩ : Shape).Idx → EReal) (b : Fin 2) (i : Fin 128) (k : Fin 512) :
    Layout.block ⟨3, ![2, 128, 512]⟩ ⟨3, ![8, 128, 512]⟩ 0 4 c v (by decide) (ix3 b i k) = v (ix3 ⟨2 * c.val + b.val, by omega⟩ i k) := by
  refine congrArg v (funext fun a => Fin.ext ?_)
  match a with
  | ⟨0, _⟩ => exact congrArg (· + b.val) (Nat.mul_comm c.val 2)
  | ⟨1, _⟩ => rfl
  | ⟨2, _⟩ => rfl

/-- Column `l` of device `c`'s columns. -/
theorem block_columns (c : Fin 4) (v : (⟨2, ![512, 1024]⟩ : Shape).Idx → EReal) (k : Fin 512) (l : Fin 256) :
    Layout.block ⟨2, ![512, 256]⟩ ⟨2, ![512, 1024]⟩ 1 4 c v (by decide) (ix2 k l) = v (ix2 k (colAt c l)) := by
  refine congrArg v (funext fun a => Fin.ext ?_)
  match a with
  | ⟨0, _⟩ => rfl
  | ⟨1, _⟩ => exact congrArg (· + l.val) (Nat.mul_comm c.val 256)

/-- Row `l` of device `c`'s rows of the output weight. -/
theorem block_outs (c : Fin 4) (v : (⟨2, ![1024, 512]⟩ : Shape).Idx → EReal) (l : Fin 256) (n : Fin 512) :
    Layout.block ⟨2, ![256, 512]⟩ ⟨2, ![1024, 512]⟩ 0 4 c v (by decide) (ix2 l n) = v (ix2 (colAt c l) n) := by
  refine congrArg v (funext fun a => Fin.ext ?_)
  match a with
  | ⟨0, _⟩ => exact congrArg (· + l.val) (Nat.mul_comm c.val 256)
  | ⟨1, _⟩ => rfl

/-- A column of the whole is some device's. -/
theorem colAt_split (e : Fin 1024) : colAt ⟨e.val / 256, by omega⟩ ⟨e.val % 256, by omega⟩ = e :=
  Fin.ext (by simp only [Cert.KernelIdeal.Work.colAt]; omega)

theorem algebraic [Cert.Pre_scores_finite_KernelIdeal.Facts] : Cert.algebraic_KernelIdeal_ReferenceIdeal_pre_scores_finite_KernelIdeal := by
  intro m g m' g' pre parts
  have fin := fun c => Cert.Finite.finite_of_pre _ _ _ _ _ (pre c)
  let x : FVec Ideal Cert.ReferenceIdeal.S8x128x512 .bf16 := m' (((0 : Dev Cert.ReferenceIdeal.nD).tc : Thread Cert.ReferenceIdeal.nD Cert.ReferenceIdeal.τ).loc Cert.ReferenceIdeal.main_arg0)
  let wq : FVec Ideal Cert.ReferenceIdeal.S512x1024 .bf16 := m' (((0 : Dev Cert.ReferenceIdeal.nD).tc : Thread Cert.ReferenceIdeal.nD Cert.ReferenceIdeal.τ).loc Cert.ReferenceIdeal.main_arg1)
  let wk : FVec Ideal Cert.ReferenceIdeal.S512x1024 .bf16 := m' (((0 : Dev Cert.ReferenceIdeal.nD).tc : Thread Cert.ReferenceIdeal.nD Cert.ReferenceIdeal.τ).loc Cert.ReferenceIdeal.main_arg2)
  let wv : FVec Ideal Cert.ReferenceIdeal.S512x1024 .bf16 := m' (((0 : Dev Cert.ReferenceIdeal.nD).tc : Thread Cert.ReferenceIdeal.nD Cert.ReferenceIdeal.τ).loc Cert.ReferenceIdeal.main_arg3)
  let wo : FVec Ideal Cert.ReferenceIdeal.S1024x512 .bf16 := m' (((0 : Dev Cert.ReferenceIdeal.nD).tc : Thread Cert.ReferenceIdeal.nD Cert.ReferenceIdeal.τ).loc Cert.ReferenceIdeal.main_arg4)
  have px : ∀ (c : Fin 4) (b : Fin 2) i k, Cert.KernelIdeal.Work.xArg m c (ix3 b i k) = x (ix3 ⟨2 * c.val + b.val, by omega⟩ i k) := fun c b i k =>
    ((congrFun (Cert.KernelIdeal.Work.xArg_eq m c) _).trans (congrFun (parts c).1 _)).trans (block_rows c x b i k)
  have pq : ∀ (c : Fin 4) k l, Cert.KernelIdeal.Work.wqArg m c (ix2 k l) = wq (ix2 k (colAt c l)) := fun c k l =>
    ((congrFun (Cert.KernelIdeal.Work.wqArg_eq m c) _).trans (congrFun (parts c).2.1 _)).trans (block_columns c wq k l)
  have pk : ∀ (c : Fin 4) k l, Cert.KernelIdeal.Work.wkArg m c (ix2 k l) = wk (ix2 k (colAt c l)) := fun c k l =>
    ((congrFun (Cert.KernelIdeal.Work.wkArg_eq m c) _).trans (congrFun (parts c).2.2.1 _)).trans (block_columns c wk k l)
  have pv : ∀ (c : Fin 4) k l, Cert.KernelIdeal.Work.wvArg m c (ix2 k l) = wv (ix2 k (colAt c l)) := fun c k l =>
    ((congrFun (Cert.KernelIdeal.Work.wvArg_eq m c) _).trans (congrFun (parts c).2.2.2.1 _)).trans (block_columns c wv k l)
  have po : ∀ (c : Fin 4) l n, Cert.KernelIdeal.Work.woArg m c (ix2 l n) = wo (ix2 (colAt c l) n) := fun c l n =>
    ((congrFun (Cert.KernelIdeal.Work.woArg_eq m c) _).trans (congrFun (parts c).2.2.2.2 _)).trans (block_outs c wo l n)
  have rx : ∀ b i k, x (ix3 b i k) = ((x (ix3 b i k)).toReal : EReal) := fun b i k => by
    have e := (px ⟨b.val / 2, by omega⟩ ⟨b.val % 2, by omega⟩ i k).symm.trans (congrFun (Cert.KernelIdeal.Work.xArg_eq m _) _)
    rw [show (⟨2 * (b.val / 2) + b.val % 2, by omega⟩ : Fin 8) = b from Fin.ext (by simp only []; omega)] at e
    rw [e]
    exact (fin _).1 _
  have rq : ∀ k e, wq (ix2 k e) = ((wq (ix2 k e)).toReal : EReal) := fun k e => by
    have h := (pq ⟨e.val / 256, by omega⟩ k ⟨e.val % 256, by omega⟩).symm.trans (congrFun (Cert.KernelIdeal.Work.wqArg_eq m _) _)
    rw [colAt_split] at h
    rw [h]
    exact (fin _).2.1 _
  have rk : ∀ k e, wk (ix2 k e) = ((wk (ix2 k e)).toReal : EReal) := fun k e => by
    have h := (pk ⟨e.val / 256, by omega⟩ k ⟨e.val % 256, by omega⟩).symm.trans (congrFun (Cert.KernelIdeal.Work.wkArg_eq m _) _)
    rw [colAt_split] at h
    rw [h]
    exact (fin _).2.2 _
  have H : Cert.KernelIdeal.Work.Blocks m (fun b i k => (x (ix3 b i k)).toReal) (fun k e => (wq (ix2 k e)).toReal) (fun k e => (wk (ix2 k e)).toReal)
      (fun k e => wv (ix2 k e)) (fun e n => wo (ix2 e n)) :=
    ⟨fun c b i k => (px c b i k).trans (rx _ i k), fun c k l => (pq c k l).trans (rq k _), fun c k l => (pk c k l).trans (rk k _), pv, po⟩
  refine ⟨Cert.ReferenceIdeal.Value.res_out0 m' 0, (θ_run Cert.KernelIdeal.defs _ _).mono (fun _ h c => ⟨(h.1 c).1.trans ?_, (h.1 c).2⟩)
      (Cert.KernelIdeal.Work.run_kernel (F := Ideal) m g),
    (θ_run Cert.ReferenceIdeal.defs _ _).mono (fun _ h => h 0) (Cert.ReferenceIdeal.Value.run (F := Ideal) m' g')⟩
  refine funext fun (j : (⟨3, ![2, 128, 512]⟩ : Shape).Idx) => ?_
  obtain ⟨b, i, n, rfl⟩ : ∃ (b : Fin 2) (i : Fin 128) (n : Fin 512), j = ix3 b i n := ⟨j 0, j 1, j 2, eq_ix3 j⟩
  exact (Cert.KernelIdeal.Work.result_at H c b i n).trans
    ((Cert.ReferenceIdeal.Work.attention_at rx rq rk wv wo _ i n).symm.trans
      ((congrFun (Cert.ReferenceIdeal.Work.res_eq m' 0).symm _).trans (block_rows c (Cert.ReferenceIdeal.Value.res_out0 m' 0) b i n).symm))

end Cert.Proof

end
-- ==== Proof.lean ====
/- The claims about the kernel and the reference, each from the module that proves it. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Maths.Algebraic
public import Idealize.ShloMosaic.Adequacy
public import Idealize.ShloMosaic.Init

@[expose] public section

noncomputable section

namespace Cert.Proof

open Idealize.ShloMosaic Idealize.SL.Sem

/-- The kernel ends, its arguments unchanged, every counter at zero: its run, the result dropped. -/
theorem frame_kernel : Cert.quiescent_Kernel := fun m g _ =>
  (θ_run Cert.Kernel.defs _ _).mono (fun _ h => ⟨fun c => (h.1 c).2, h.2⟩) (Cert.Kernel.Work.run_kernel (F := Bits) m g)

/-- So does the kernel over the extended reals. -/
theorem frame_ideal : Cert.quiescent_KernelIdeal := fun m g _ =>
  (θ_run Cert.KernelIdeal.defs _ _).mono (fun _ h => ⟨fun c => (h.1 c).2, h.2⟩) (Cert.KernelIdeal.Work.run_kernel (F := Ideal) m g)

/-- So does the reference, which has no semaphores. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The named constant has the value it is named for. -/
theorem preserves : Cert.preserves_Kernel_KernelIdeal :=
  IdealRules.named_const.statement Cert.KernelIdeal.κ "rope_rate" .f32 0xBE135D8E#32 (((-(Real.log 10000)) * 64⁻¹ : ℝ) : EReal) rfl

theorem claim : Cert.Claim :=
  ⟨Cert.Kernel.Gen.facts, Cert.KernelIdeal.Gen.facts, Cert.ReferenceIdeal.Gen.facts, Cert.Finite.facts_device, Cert.Finite.facts_whole,
    frame_kernel, frame_ideal, fun m g _ => frame_ideal m g trivial, frame_reference, fun m g _ => frame_reference m g trivial, preserves,
    @algebraic Cert.Finite.facts_device⟩

end Cert.Proof

end
